-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1 : Shape := ⟨2, ![512, 1]⟩
abbrev S128x1 : Shape := ⟨2, ![128, 1]⟩
abbrev S512x128 : Shape := ⟨2, ![512, 128]⟩
abbrev S131x128 : Shape := ⟨2, ![131, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S259x256 : Shape := ⟨2, ![259, 256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256x40 : Shape := ⟨2, ![256, 40]⟩
abbrev S40 : Shape := ⟨1, ![40]⟩
abbrev S1x512 : Shape := ⟨2, ![1, 512]⟩
abbrev S3x128 : Shape := ⟨2, ![3, 128]⟩
abbrev S1x128 : Shape := ⟨2, ![1, 128]⟩
abbrev S1x256 : Shape := ⟨2, ![1, 256]⟩
abbrev S16x1 : Shape := ⟨2, ![16, 1]⟩
abbrev S16x256 : Shape := ⟨2, ![16, 256]⟩
abbrev S8x128 : Shape := ⟨2, ![8, 128]⟩
abbrev S16x3 : Shape := ⟨2, ![16, 3]⟩
abbrev S3x512 : Shape := ⟨2, ![3, 512]⟩
abbrev S16x512 : Shape := ⟨2, ![16, 512]⟩
abbrev S16 : Shape := ⟨1, ![16]⟩
abbrev S1024x1 : Shape := ⟨2, ![1024, 1]⟩
abbrev S1024x128 : Shape := ⟨2, ![1024, 128]⟩
abbrev S1024x3 : Shape := ⟨2, ![1024, 3]⟩
abbrev S1024x256 : Shape := ⟨2, ![1024, 256]⟩
abbrev S64x16x256 : Shape := ⟨3, ![64, 16, 256]⟩
abbrev S256x256 : Shape := ⟨2, ![256, 256]⟩
abbrev S3x256 : Shape := ⟨2, ![3, 256]⟩
abbrev S1x1024 : Shape := ⟨2, ![1, 1024]⟩
abbrev S1x40 : Shape := ⟨2, ![1, 40]⟩
abbrev S1x128x1 : Shape := ⟨3, ![1, 128, 1]⟩
abbrev S1 : Shape := ⟨1, ![1]⟩
abbrev S1x1x1 : Shape := ⟨3, ![1, 1, 1]⟩
abbrev S1x1 : Shape := ⟨2, ![1, 1]⟩
abbrev S128x3 : Shape := ⟨2, ![128, 3]⟩
abbrev S128x512 : Shape := ⟨2, ![128, 512]⟩
abbrev S128x1024 : Shape := ⟨2, ![128, 1024]⟩

abbrev nBuf : Space → Nat
  | .hbm => 43
  | .vmem => 38
  | .smem => 0
  | _ => 0

abbrev bufTy : (tb : Table) → Fin (tcTables nBuf tb) → BufTy
  | .hbm, ⟨0, _⟩ => ⟨S512x1, .f32⟩
  | .hbm, ⟨1, _⟩ => ⟨S512x1, .f32⟩
  | .hbm, ⟨2, _⟩ => ⟨S512x1, .f32⟩
  | .hbm, ⟨3, _⟩ => ⟨S128x1, .f32⟩
  | .hbm, ⟨4, _⟩ => ⟨S128x1, .f32⟩
  | .hbm, ⟨5, _⟩ => ⟨S128x1, .f32⟩
  | .hbm, ⟨6, _⟩ => ⟨S512x128, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S259x256, .f32⟩
  | .hbm, ⟨14, _⟩ => ⟨S256, .f32⟩
  | .hbm, ⟨15, _⟩ => ⟨S256x512, .f32⟩
  | .hbm, ⟨16, _⟩ => ⟨S512, .f32⟩
  | .hbm, ⟨17, _⟩ => ⟨S512x1024, .f32⟩
  | .hbm, ⟨18, _⟩ => ⟨S1024, .f32⟩
  | .hbm, ⟨19, _⟩ => ⟨S1024x512, .f32⟩
  | .hbm, ⟨20, _⟩ => ⟨S512, .f32⟩
  | .hbm, ⟨21, _⟩ => ⟨S512x256, .f32⟩
  | .hbm, ⟨22, _⟩ => ⟨S256, .f32⟩
  | .hbm, ⟨23, _⟩ => ⟨S256x40, .f32⟩
  | .hbm, ⟨24, _⟩ => ⟨S40, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S128x128, .f32⟩
  | .hbm, ⟨29, _⟩ => ⟨S3x128, .f32⟩
  | .hbm, ⟨30, _⟩ => ⟨S1x128, .f32⟩
  | .hbm, ⟨31, _⟩ => ⟨S1x128, .f32⟩
  | .hbm, ⟨32, _⟩ => ⟨S1x256, .f32⟩
  | .hbm, ⟨33, _⟩ => ⟨S128x256, .f32⟩
  | .hbm, ⟨34, _⟩ => ⟨S256x256, .f32⟩
  | .hbm, ⟨35, _⟩ => ⟨S3x256, .f32⟩
  | .hbm, ⟨36, _⟩ => ⟨S1x256, .f32⟩
  | .hbm, ⟨37, _⟩ => ⟨S1x512, .f32⟩
  | .hbm, ⟨38, _⟩ => ⟨S1x1024, .f32⟩
  | .hbm, ⟨39, _⟩ => ⟨S1x512, .f32⟩
  | .hbm, ⟨40, _⟩ => ⟨S1x256, .f32⟩
  | .hbm, ⟨41, _⟩ => ⟨S1x40, .f32⟩
  | .hbm, ⟨42, _⟩ => ⟨S1x40, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S16x1, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S512x128, .f32⟩
  | .local _ .vmem, ⟨10, _⟩ => ⟨S128x128, .f32⟩
  | .local _ .vmem, ⟨11, _⟩ => ⟨S3x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S128x256, .f32⟩
  | .local _ .vmem, ⟨16, _⟩ => ⟨S1x256, .f32⟩
  | .local _ .vmem, ⟨17, _⟩ => ⟨S16x256, .f32⟩
  | .local _ .vmem, ⟨18, _⟩ => ⟨S16x256, .f32⟩
  | .local _ .vmem, ⟨19, _⟩ => ⟨S8x128, .f32⟩
  | .local _ .vmem, ⟨20, _⟩ => ⟨S128x256, .f32⟩
  | .local _ .vmem, ⟨21, _⟩ => ⟨S128x1, .f32⟩
  | .local _ .vmem, ⟨22, _⟩ => ⟨S128x1, .f32⟩
  | .local _ .vmem, ⟨23, _⟩ => ⟨S128x1, .f32⟩
  | .local _ .vmem, ⟨24, _⟩ => ⟨S256x256, .f32⟩
  | .local _ .vmem, ⟨25, _⟩ => ⟨S3x256, .f32⟩
  | .local _ .vmem, ⟨26, _⟩ => ⟨S1x256, .f32⟩
  | .local _ .vmem, ⟨27, _⟩ => ⟨S256x512, .f32⟩
  | .local _ .vmem, ⟨28, _⟩ => ⟨S1x512, .f32⟩
  | .local _ .vmem, ⟨29, _⟩ => ⟨S512x1024, .f32⟩
  | .local _ .vmem, ⟨30, _⟩ => ⟨S1x1024, .f32⟩
  | .local _ .vmem, ⟨31, _⟩ => ⟨S1024x512, .f32⟩
  | .local _ .vmem, ⟨32, _⟩ => ⟨S1x512, .f32⟩
  | .local _ .vmem, ⟨33, _⟩ => ⟨S512x256, .f32⟩
  | .local _ .vmem, ⟨34, _⟩ => ⟨S1x256, .f32⟩
  | .local _ .vmem, ⟨35, _⟩ => ⟨S256x40, .f32⟩
  | .local _ .vmem, ⟨36, _⟩ => ⟨S1x40, .f32⟩
  | .local _ .vmem, ⟨37, _⟩ => ⟨S1x40, .f32⟩
  | _, _ => ⟨S512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg15_0 : Ref sig .tc := ⟨.vmem, 35, rfl⟩
abbrev cc1_stg16_0 : Ref sig .tc := ⟨.vmem, 36, rfl⟩
abbrev cc1_stg17_0 : Ref sig .tc := ⟨.vmem, 37, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc1_sem0_0 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem16_0 : DmaSem sig := 35
abbrev cc1_sem17_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := .none

abbrev stage1_0 : Fin 1 → Memref sig .tc .vmem S128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S3x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S256x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S512x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1024x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S512x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S256x40 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x40 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S1x40 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
-- ==== ReferenceIdeal.lean ====
abbrev S512x1 : Shape := ⟨2, ![512, 1]⟩
abbrev S128x1 : Shape := ⟨2, ![128, 1]⟩
abbrev S512x128 : Shape := ⟨2, ![512, 128]⟩
abbrev S131x128 : Shape := ⟨2, ![131, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S259x256 : Shape := ⟨2, ![259, 256]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S512x256 : Shape := ⟨2, ![512, 256]⟩
abbrev S256x40 : Shape := ⟨2, ![256, 40]⟩
abbrev S40 : Shape := ⟨1, ![40]⟩
abbrev S512x3 : Shape := ⟨2, ![512, 3]⟩
abbrev S128x3 : Shape := ⟨2, ![128, 3]⟩
abbrev S_ : Shape := ⟨0, ![]⟩
abbrev S1x512 : Shape := ⟨2, ![1, 512]⟩
abbrev S128x512 : Shape := ⟨2, ![128, 512]⟩
abbrev S3x512 : Shape := ⟨2, ![3, 512]⟩
abbrev S128x64 : Shape := ⟨2, ![128, 64]⟩
abbrev S128x64x1 : Shape := ⟨3, ![128, 64, 1]⟩
abbrev S128x64x3 : Shape := ⟨3, ![128, 64, 3]⟩
abbrev S128x1x3 : Shape := ⟨3, ![128, 1, 3]⟩
abbrev S128x64x128 : Shape := ⟨3, ![128, 64, 128]⟩
abbrev S128x64x131 : Shape := ⟨3, ![128, 64, 131]⟩
abbrev S1x1x128 : Shape := ⟨3, ![1, 1, 128]⟩
abbrev S128x64x256 : Shape := ⟨3, ![128, 64, 256]⟩
abbrev S1x1x256 : Shape := ⟨3, ![1, 1, 256]⟩
abbrev S3 : Shape := ⟨1, ![3]⟩
abbrev S1x3 : Shape := ⟨2, ![1, 3]⟩
abbrev S128x259 : Shape := ⟨2, ![128, 259]⟩
abbrev S1x256 : Shape := ⟨2, ![1, 256]⟩
abbrev S128x1024 : Shape := ⟨2, ![128, 1024]⟩
abbrev S1x1024 : Shape := ⟨2, ![1, 1024]⟩
abbrev S1x40 : Shape := ⟨2, ![1, 40]⟩

abbrev nBuf : Space → Nat
  | .hbm => 163
  | .vmem => 0
  | .smem => 0
  | _ => 0

abbrev hbmTy0_0 (i : Nat) : BufTy := match i % 128 with
  | 0 => ⟨S512x1, .f32⟩
  | 1 => ⟨S512x1, .f32⟩
  | 2 => ⟨S512x1, .f32⟩
  | 3 => ⟨S128x1, .f32⟩
  | 4 => ⟨S128x1, .f32⟩
  | 5 => ⟨S128x1, .f32⟩
  | 6 => ⟨S512x128, .f32⟩
  | 7 => ⟨S131x128, .f32⟩
  | 8 => ⟨S128, .f32⟩
  | 9 => ⟨S128x128, .f32⟩
  | 10 => ⟨S128, .f32⟩
  | 11 => ⟨S128x256, .f32⟩
  | 12 => ⟨S256, .f32⟩
  | 13 => ⟨S259x256, .f32⟩
  | 14 => ⟨S256, .f32⟩
  | 15 => ⟨S256x512, .f32⟩
  | 16 => ⟨S512, .f32⟩
  | 17 => ⟨S512x1024, .f32⟩
  | 18 => ⟨S1024, .f32⟩
  | 19 => ⟨S1024x512, .f32⟩
  | 20 => ⟨S512, .f32⟩
  | 21 => ⟨S512x256, .f32⟩
  | 22 => ⟨S256, .f32⟩
  | 23 => ⟨S256x40, .f32⟩
  | 24 => ⟨S40, .f32⟩
  | 25 => ⟨S512x3, .f32⟩
  | 26 => ⟨S128x3, .f32⟩
  | 27 => ⟨S128x3, .f32⟩
  | 28 => ⟨S_, .f32⟩
  | 29 => ⟨S128, .f32⟩
  | 30 => ⟨S128x1, .f32⟩
  | 31 => ⟨S512x3, .f32⟩
  | 32 => ⟨S_, .f32⟩
  | 33 => ⟨S512, .f32⟩
  | 34 => ⟨S1x512, .f32⟩
  | 35 => ⟨S128x512, .f32⟩
  | 36 => ⟨S128x512, .f32⟩
  | 37 => ⟨S128x512, .f32⟩
  | 38 => ⟨S3x512, .f32⟩
  | 39 => ⟨S128x512, .f32⟩
  | 40 => ⟨S_, .f32⟩
  | 41 => ⟨S128x512, .f32⟩
  | 42 => ⟨S128x512, .f32⟩
  | 43 => ⟨S128x512, .f32⟩
  | 44 => ⟨S_, .f32⟩
  | 45 => ⟨S128x512, .f32⟩
  | 46 => ⟨S128x512, .f32⟩
  | 47 => ⟨S_, .f32⟩
  | 48 => ⟨S128x512, .f32⟩
  | 49 => ⟨S128x512, .i1⟩
  | 50 => ⟨S_, .f32⟩
  | 51 => ⟨S_, .f32⟩
  | 52 => ⟨S128x512, .f32⟩
  | 53 => ⟨S128x512, .f32⟩
  | 54 => ⟨S128x512, .f32⟩
  | 55 => ⟨S128x64, .f32⟩
  | 56 => ⟨S128x64, .i32⟩
  | 57 => ⟨S_, .f32⟩
  | 58 => ⟨S128x64, .f32⟩
  | 59 => ⟨S128x64, .i1⟩
  | 60 => ⟨S_, .i32⟩
  | 61 => ⟨S_, .i32⟩
  | 62 => ⟨S128x64, .i32⟩
  | 63 => ⟨S128x64, .i32⟩
  | 64 => ⟨S_, .i32⟩
  | 65 => ⟨S128x64, .i32⟩
  | 66 => ⟨S128x64, .i1⟩
  | 67 => ⟨S_, .i32⟩
  | 68 => ⟨S128x64, .i32⟩
  | 69 => ⟨S128x64, .i32⟩
  | 70 => ⟨S128x64, .i32⟩
  | 71 => ⟨S128x64x1, .i32⟩
  | 72 => ⟨S128x64x3, .f32⟩
  | 73 => ⟨S128x1x3, .f32⟩
  | 74 => ⟨S128x64x3, .f32⟩
  | 75 => ⟨S128x64x3, .f32⟩
  | 76 => ⟨S_, .i32⟩
  | 77 => ⟨S128x64, .i32⟩
  | 78 => ⟨S128x64, .i1⟩
  | 79 => ⟨S_, .i32⟩
  | 80 => ⟨S128x64, .i32⟩
  | 81 => ⟨S128x64, .i32⟩
  | 82 => ⟨S128x64, .i32⟩
  | 83 => ⟨S128x64x1, .i32⟩
  | 84 => ⟨S128x64x128, .f32⟩
  | 85 => ⟨S128x64x131, .f32⟩
  | 86 => ⟨S128x64x128, .f32⟩
  | 87 => ⟨S1x1x128, .f32⟩
  | 88 => ⟨S128x64x128, .f32⟩
  | 89 => ⟨S128x64x128, .f32⟩
  | 90 => ⟨S_, .f32⟩
  | 91 => ⟨S128x64x128, .f32⟩
  | 92 => ⟨S128x64x128, .f32⟩
  | 93 => ⟨S128x64x128, .f32⟩
  | 94 => ⟨S1x1x128, .f32⟩
  | 95 => ⟨S128x64x128, .f32⟩
  | 96 => ⟨S128x64x128, .f32⟩
  | 97 => ⟨S_, .f32⟩
  | 98 => ⟨S128x64x128, .f32⟩
  | 99 => ⟨S128x64x128, .f32⟩
  | 100 => ⟨S128x64x256, .f32⟩
  | 101 => ⟨S1x1x256, .f32⟩
  | 102 => ⟨S128x64x256, .f32⟩
  | 103 => ⟨S128x64x256, .f32⟩
  | 104 => ⟨S_, .f32⟩
  | 105 => ⟨S128x64x256, .f32⟩
  | 106 => ⟨S128x64x256, .f32⟩
  | 107 => ⟨S128x64x1, .i1⟩
  | 108 => ⟨S_, .f32⟩
  | 109 => ⟨S_, .f32⟩
  | 110 => ⟨S128x64x256, .i1⟩
  | 111 => ⟨S128x64x256, .f32⟩
  | 112 => ⟨S128x64x256, .f32⟩
  | 113 => ⟨S_, .f32⟩
  | 114 => ⟨S128x256, .f32⟩
  | 115 => ⟨S_, .f32⟩
  | 116 => ⟨S3, .f32⟩
  | 117 => ⟨S1x3, .f32⟩
  | 118 => ⟨S_, .f32⟩
  | 119 => ⟨S1x3, .f32⟩
  | 120 => ⟨S1x3, .f32⟩
  | 121 => ⟨S128x3, .f32⟩
  | 122 => ⟨S128x3, .f32⟩
  | 123 => ⟨S128x259, .f32⟩
  | 124 => ⟨S128x256, .f32⟩
  | 125 => ⟨S1x256, .f32⟩
  | 126 => ⟨S128x256, .f32⟩
  | 127 => ⟨S128x256, .f32⟩
  | _ => ⟨S512x1, .f32⟩

abbrev hbmTy0_1 (i : Nat) : BufTy := match i % 128 with
  | 0 => ⟨S_, .f32⟩
  | 1 => ⟨S128x256, .f32⟩
  | 2 => ⟨S128x256, .f32⟩
  | 3 => ⟨S128x512, .f32⟩
  | 4 => ⟨S1x512, .f32⟩
  | 5 => ⟨S128x512, .f32⟩
  | 6 => ⟨S128x512, .f32⟩
  | 7 => ⟨S_, .f32⟩
  | 8 => ⟨S128x512, .f32⟩
  | 9 => ⟨S128x512, .f32⟩
  | 10 => ⟨S128x1024, .f32⟩
  | 11 => ⟨S1x1024, .f32⟩
  | 12 => ⟨S128x1024, .f32⟩
  | 13 => ⟨S128x1024, .f32⟩
  | 14 => ⟨S_, .f32⟩
  | 15 => ⟨S128x1024, .f32⟩
  | 16 => ⟨S128x1024, .f32⟩
  | 17 => ⟨S_, .f32⟩
  | 18 => ⟨S1024, .f32⟩
  | 19 => ⟨S1x1024, .f32⟩
  | 20 => ⟨S1x512, .f32⟩
  | 21 => ⟨S1x512, .f32⟩
  | 22 => ⟨S1x512, .f32⟩
  | 23 => ⟨S_, .f32⟩
  | 24 => ⟨S1x512, .f32⟩
  | 25 => ⟨S1x512, .f32⟩
  | 26 => ⟨S1x256, .f32⟩
  | 27 => ⟨S1x256, .f32⟩
  | 28 => ⟨S1x256, .f32⟩
  | 29 => ⟨S_, .f32⟩
  | 30 => ⟨S1x256, .f32⟩
  | 31 => ⟨S1x256, .f32⟩
  | 32 => ⟨S1x40, .f32⟩
  | 33 => ⟨S1x40, .f32⟩
  | 34 => ⟨S1x40, .f32⟩
  | _ => ⟨S512x1, .f32⟩

abbrev hbmTy (i : Nat) : BufTy := match i / 128 with
  | 0 => hbmTy0_0 i
  | 1 => hbmTy0_1 i
  | _ => ⟨S512x1, .f32⟩

abbrev bufTy : (tb : Table) → Fin (tcTables nBuf tb) → BufTy
  | .hbm, ⟨i, _⟩ => hbmTy i
  | _, _ => ⟨S512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v20 : Ref sig .tc := ⟨.hbm, 53, rfl⟩
abbrev main_v21 : Ref sig .tc := ⟨.hbm, 54, rfl⟩
abbrev main_values : Ref sig .tc := ⟨.hbm, 55, rfl⟩
abbrev main_indices : Ref sig .tc := ⟨.hbm, 56, rfl⟩
abbrev main_cst_5 : Ref sig .tc := ⟨.hbm, 57, rfl⟩
abbrev main_v22 : Ref sig .tc := ⟨.hbm, 58, rfl⟩
abbrev main_v23 : Ref sig .tc := ⟨.hbm, 59, rfl⟩
abbrev main_c : Ref sig .tc := ⟨.hbm, 60, rfl⟩
abbrev main_call1_v0 : Ref sig .tc := ⟨.hbm, 61, rfl⟩
abbrev main_call1_v1 : Ref sig .tc := ⟨.hbm, 62, rfl⟩
abbrev main_v24 : Ref sig .tc := ⟨.hbm, 63, rfl⟩
abbrev main_c_6 : Ref sig .tc := ⟨.hbm, 64, rfl⟩
abbrev main_v25 : Ref sig .tc := ⟨.hbm, 65, rfl⟩
abbrev main_v26 : Ref sig .tc := ⟨.hbm, 66, rfl⟩
abbrev main_c_7 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_c_8 : Ref sig .tc := ⟨.hbm, 76, rfl⟩
abbrev main_v35 : Ref sig .tc := ⟨.hbm, 77, rfl⟩
abbrev main_v36 : Ref sig .tc := ⟨.hbm, 78, rfl⟩
abbrev main_c_9 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call2_cst : Ref sig .tc := ⟨.hbm, 90, rfl⟩
abbrev main_call2_v0 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call3_cst : Ref sig .tc := ⟨.hbm, 97, rfl⟩
abbrev main_call3_v0 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_call4_cst : Ref sig .tc := ⟨.hbm, 104, rfl⟩
abbrev main_call4_v0 : Ref sig .tc := ⟨.hbm, 105, rfl⟩
abbrev main_v57 : Ref sig .tc := ⟨.hbm, 106, rfl⟩
abbrev main_v58 : Ref sig .tc := ⟨.hbm, 107, rfl⟩
abbrev main_cst_10 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v59 : Ref sig .tc := ⟨.hbm, 112, rfl⟩
abbrev main_cst_11 : Ref sig .tc := ⟨.hbm, 113, rfl⟩
abbrev main_v60 : Ref sig .tc := ⟨.hbm, 114, rfl⟩
abbrev main_cst_12 : Ref sig .tc := ⟨.hbm, 115, rfl⟩
abbrev main_v61 : Ref sig .tc := ⟨.hbm, 116, rfl⟩
abbrev main_v62 : Ref sig .tc := ⟨.hbm, 117, rfl⟩
abbrev main_cst_13 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_call6_cst : Ref sig .tc := ⟨.hbm, 128, rfl⟩
abbrev main_call6_v0 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_call7_cst : Ref sig .tc := ⟨.hbm, 135, rfl⟩
abbrev main_call7_v0 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_call8_cst : Ref sig .tc := ⟨.hbm, 142, rfl⟩
abbrev main_call8_v0 : Ref sig .tc := ⟨.hbm, 143, rfl⟩
abbrev main_v82 : Ref sig .tc := ⟨.hbm, 144, rfl⟩
abbrev main_cst_14 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_call9_cst : Ref sig .tc := ⟨.hbm, 151, rfl⟩
abbrev main_call9_v0 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_call10_cst : Ref sig .tc := ⟨.hbm, 157, rfl⟩
abbrev main_call10_v0 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩

abbrev nD : Nat := 1
abbrev τ : Topo := Topo.v7x

variable {F : FTy → Type} [FloatOps F]
-- ==== Proof.Round.lean ====
module

public import proofs.«01_k».proof.Proof.Gen.KernelIdeal

/- The grouping kernel's block as a function of its fourteen input blocks. A round takes, in each of
   the sixteen rows of distances, the least distance left, the first position holding it, the point
   at that position, and puts infinity there; sixty-four rounds are stacked and go through the
   three-layer perceptron, and the greatest feature over the rounds is kept. -/

@[expose] public section

set_option maxRecDepth 16384

noncomputable section

namespace Cert.Group

open Idealize.ShloMosaic Idealize.SL.Sem Cert.KernelIdeal Cert.KernelIdeal.Gen

variable {F : FTy → Type} [FloatOps F]

/-- The position along a row, at each cell. -/
def place : IVec S16x512 32 := iota .tc S16x512 32 [1] iota_S16x512_d1_w32

/-- The least value of each row. -/
def least (d : FVec F S16x512 .f32) : FVec F S16x1 .f32 :=
  shapeCast S16x1 (multiReduction .minimumf [1] S16 d 0x7F800000#32 reduces_S16x512_S16 (.inl rfl) rfl) shapeCasts_S16_S16x1

/-- The first position of each row that holds its least value. -/
def firstPlace (d : FVec F S16x512 .f32) : IVec S16x1 32 :=
  shapeCast S16x1 (multiReductionI .minsi [1] S16
    (select (cmpf .oeq d (broadcastTo S16x512 (least d) broadcasts_S16x1_S16x512)) place (broadcast S16x512 512#32))
    2147483647#32 reduces_S16x512_S16 rfl) shapeCasts_S16_S16x1

/-- Whether a cell is the one its row's round takes. -/
def hit (d : FVec F S16x512 .f32) : IVec S16x512 1 :=
  cmpi .eq place (broadcastTo S16x512 (firstPlace d) broadcasts_S16x1_S16x512)

/-- The coordinate `p` of the point that each row's round takes. -/
def pick (p : FVec F S1x512 .f32) (d : FVec F S16x512 .f32) : FVec F S16x1 .f32 :=
  shapeCast S16x1 (multiReduction .add [1] S16
    (select (hit d) (broadcastTo S16x512 (shapeCast S1x512 p shapeCasts_S1x512_S1x512) broadcasts_S1x512_S16x512)
      (broadcast S16x512 (Scalar.ofBits .f32 0x00000000#32)))
    0x00000000#32 reduces_S16x512_S16 (.inl rfl) rfl) shapeCasts_S16_S16x1

/-- The row of zeros with a one at the cell taken. -/
def one (d : FVec F S16x512 .f32) : FVec F S16x512 .f32 :=
  select (hit d) (broadcast S16x512 (Scalar.ofBits .f32 0x3F800000#32)) (broadcast S16x512 (Scalar.ofBits .f32 0x00000000#32))

/-- The distances that are left for the round after. -/
def next (d : FVec F S16x512 .f32) : FVec F S16x512 .f32 :=
  select (hit d) (broadcast S16x512 (Scalar.ofBits .f32 0x7F800000#32)) d

/-- The distances that are left after `n` rounds. -/
def after (d : FVec F S16x512 .f32) (n : ℕ) : FVec F S16x512 .f32 :=
  Nat.rec d (fun _ e => next e) n

/-- The squared distances from sixteen centres to the 512 points, infinite outside the ball. -/
def dist (x0 x1 x2 : Vec F S1x512 .f32) (x3 x4 x5 : Vec F S16x1 .f32) : FVec F S16x512 .f32 :=
  let p0 : FVec F S1x512 .f32 := shapeCast S1x512 x0 shapeCasts_S1x512_S1x512
  let p1 : FVec F S1x512 .f32 := shapeCast S1x512 x1 shapeCasts_S1x512_S1x512
  let p2 : FVec F S1x512 .f32 := shapeCast S1x512 x2 shapeCasts_S1x512_S1x512
  let u : FVec F S16x512 .f32 := maximumf
    (subf
      (addf (broadcastTo S16x512 (addf (addf (mulf x3 x3) (mulf x4 x4)) (mulf x5 x5)) broadcasts_S16x1_S16x512)
        (broadcastTo S16x512 (addf (addf (mulf p0 p0) (mulf p1 p1)) (mulf p2 p2)) broadcasts_S1x512_S16x512))
      (mulf (broadcast S16x512 (Scalar.ofBits .f32 0x40000000#32))
        (matmul dot_S16x3_S3x512_S16x512_1_0_0_1_n_n none
          (concatenate S16x3 1 [⟨S16x1, x3⟩, ⟨S16x1, x4⟩, ⟨S16x1, x5⟩] concatenates_S16x1_S16x1_S16x1_S16x3_d1)
          (concatenate S3x512 0 [⟨S1x512, p0⟩, ⟨S1x512, p1⟩, ⟨S1x512, p2⟩] concatenates_S1x512_S1x512_S1x512_S3x512_d0)
          (constant S16x512 .f32 0x00000000#32))))
    (broadcast S16x512 (Scalar.ofBits .f32 0x00000000#32))
  select (cmpf .ole u (broadcast S16x512 (Scalar.ofBits .f32 0x3E23D70A#32))) u
    (broadcast S16x512 (Scalar.ofBits .f32 0x7F800000#32))

/-- Sixty-four columns of sixteen rows stack to 1024 rows. -/
theorem stack_ok (f : ℕ → FVec F S16x1 .f32) :
    Shape.Concatenates ((List.ofFn fun t : Fin 64 => (⟨S16x1, f t⟩ : (s : Shape) × (s.Idx → F .f32))).map (·.1)) S1024x1 0 :=
  concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S1024x1_d0

/-- Sixty-four blocks of sixteen rows stack to 1024 rows. -/
theorem stackWide_ok (f : ℕ → FVec F S16x512 .f32) :
    Shape.Concatenates ((List.ofFn fun t : Fin 64 => (⟨S16x512, f t⟩ : (s : Shape) × (s.Idx → F .f32))).map (·.1)) S1024x512 0 :=
  concatenates_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S1024x512_d0

/-- The columns `f 0, …, f 63`, one under the other. -/
def stack (f : ℕ → FVec F S16x1 .f32) : FVec F S1024x1 .f32 :=
  concatenate S1024x1 0 (List.ofFn fun t : Fin 64 => ⟨S16x1, f t⟩) (stack_ok f)

/-- The blocks `f 0, …, f 63`, one under the other. -/
def stackWide (f : ℕ → FVec F S16x512 .f32) : FVec F S1024x512 .f32 :=
  concatenate S1024x512 0 (List.ofFn fun t : Fin 64 => ⟨S16x512, f t⟩) (stackWide_ok f)

/-- The perceptron of the grouped rows: the three coordinates and the 128 features of each row. -/
def perceptron (o : FVec F S1024x512 .f32) (r0 r1 r2 : FVec F S1024x1 .f32) (x6 : Vec F S512x128 .f32) (x7 : Vec F S128x128 .f32)
    (x8 : Vec F S3x128 .f32) (x9 : Vec F S1x128 .f32) (x10 : Vec F S128x128 .f32) (x11 : Vec F S1x128 .f32) (x12 : Vec F S128x256 .f32)
    (x13 : Vec F S1x256 .f32) : FVec F S1024x256 .f32 :=
  let g : FVec F S1024x128 .f32 := matmul dot_S1024x512_S512x128_S1024x128_1_0_0_1_n_n (some .fp32) o x6 (constant S1024x128 .f32 0x00000000#32)
  let a : FVec F S1024x128 .f32 := maximumf
    (addf
      (addf (matmul dot_S1024x128_S128x128_S1024x128_1_0_0_1_n_n none g (shapeCast S128x128 x7 shapeCasts_S128x128_S128x128) (constant S1024x128 .f32 0x00000000#32))
        (matmul dot_S1024x3_S3x128_S1024x128_1_0_0_1_n_n none
          (concatenate S1024x3 1 [⟨S1024x1, r0⟩, ⟨S1024x1, r1⟩, ⟨S1024x1, r2⟩] concatenates_S1024x1_S1024x1_S1024x1_S1024x3_d1)
          (shapeCast S3x128 x8 shapeCasts_S3x128_S3x128) (constant S1024x128 .f32 0x00000000#32)))
      (broadcastTo S1024x128 (shapeCast S1x128 x9 shapeCasts_S1x128_S1x128) broadcasts_S1x128_S1024x128))
    (broadcast S1024x128 (Scalar.ofBits .f32 0x00000000#32))
  let b : FVec F S1024x128 .f32 := maximumf
    (addf (matmul dot_S1024x128_S128x128_S1024x128_1_0_0_1_n_n none a x10 (constant S1024x128 .f32 0x00000000#32))
      (broadcastTo S1024x128 (shapeCast S1x128 x11 shapeCasts_S1x128_S1x128) broadcasts_S1x128_S1024x128))
    (broadcast S1024x128 (Scalar.ofBits .f32 0x00000000#32))
  maximumf
    (addf (matmul dot_S1024x128_S128x256_S1024x256_1_0_0_1_n_n none b x12 (constant S1024x256 .f32 0x00000000#32))
      (broadcastTo S1024x256 (shapeCast S1x256 x13 shapeCasts_S1x256_S1x256) broadcasts_S1x256_S1024x256))
    (broadcast S1024x256 (Scalar.ofBits .f32 0x00000000#32))

/-- The greatest feature over the rounds that took a point of the ball. -/
def pool (h : FVec F S1024x256 .f32) (v : FVec F S1024x1 .f32) : FVec F S16x256 .f32 :=
  multiReduction .maximumf [0] S16x256
    (shapeCast S64x16x256
      (select
        (broadcastTo S1024x256
          (shapeCast S1024x1 (cmpf .olt v (broadcast S1024x1 (Scalar.ofBits .f32 0x7F800000#32))) shapeCasts_S1024x1_S1024x1)
          broadcasts_S1024x1_S1024x256)
        h (broadcast S1024x256 (Scalar.ofBits .f32 0xFF800000#32)))
      shapeCasts_S1024x256_S64x16x256)
    0xFF800000#32 reduces_S64x16x256_S16x256 (.inl rfl) rfl

/-- A block of the grouping kernel's result. -/
def block (x0 x1 x2 : Vec F S1x512 .f32) (x3 x4 x5 : Vec F S16x1 .f32) (x6 : Vec F S512x128 .f32) (x7 : Vec F S128x128 .f32)
    (x8 : Vec F S3x128 .f32) (x9 : Vec F S1x128 .f32) (x10 : Vec F S128x128 .f32) (x11 : Vec F S1x128 .f32) (x12 : Vec F S128x256 .f32)
    (x13 : Vec F S1x256 .f32) : FVec F S16x256 .f32 :=
  let d := after (dist x0 x1 x2 x3 x4 x5)
  let p0 : FVec F S1x512 .f32 := shapeCast S1x512 x0 shapeCasts_S1x512_S1x512
  let p1 : FVec F S1x512 .f32 := shapeCast S1x512 x1 shapeCasts_S1x512_S1x512
  let p2 : FVec F S1x512 .f32 := shapeCast S1x512 x2 shapeCasts_S1x512_S1x512
  pool
    (perceptron (stackWide fun t => one (d t))
      (subf (stack fun t => pick p0 (d t)) (stack fun _ => x3))
      (subf (stack fun t => pick p1 (d t)) (stack fun _ => x4))
      (subf (stack fun t => pick p2 (d t)) (stack fun _ => x5)) x6 x7 x8 x9 x10 x11 x12 x13)
    (stack fun t => least (d t))

end Cert.Group
-- ==== Proof.Link.lean ====
module

public import proofs.«01_k».proof.Proof.Round
public import proofs.«01_k».proof.Proof.Gen.KernelIdeal.Frame
public import Idealize.ShloMosaic.Lib.VecWindow

/- The run of the grouping kernel's body stores one whole block, and the block is `Cert.Group.block`
   of the fourteen blocks it loads. -/

@[expose] public section

set_option maxRecDepth 65536

noncomputable section

namespace Cert.Group

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The one store of the body's run, at the loads of its inputs' whole buffers. -/
theorem run_pieces (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S512x128 .f32) (harg7 : arg7.IsWhole) (arg8 : Memref sig .tc .vmem S128x128 .f32) (harg8 : arg8.IsWhole) (arg9 : Memref sig .tc .vmem S3x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S16x256 .f32) (harg15 : arg15.IsWhole) (arg16 : Memref sig .tc .vmem S8x128 .f32) (harg16 : arg16.IsWhole)
    (x0 : Vec F S1x512 .f32) (x1 : Vec F S1x512 .f32) (x2 : Vec F S1x512 .f32) (x3 : Vec F S16x1 .f32) (x4 : Vec F S16x1 .f32) (x5 : Vec F S16x1 .f32) (x6 : Vec F S512x128 .f32) (x7 : Vec F S128x128 .f32) (x8 : Vec F S3x128 .f32) (x9 : Vec F S1x128 .f32) (x10 : Vec F S128x128 .f32) (x11 : Vec F S1x128 .f32) (x12 : Vec F S128x256 .f32) (x13 : Vec F S1x256 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13).1 = [⟨Rect.unit ![0, 0] S16x256.size inb_S16x256_S16x256_0_0, block
      (View.readAt (Elt F) arg1.view (Rect.unit ![0, 0] S1x512.size inb_S1x512_S1x512_0_0).toLoadRect (harg1.unread x0))
      (View.readAt (Elt F) arg2.view (Rect.unit ![0, 0] S1x512.size inb_S1x512_S1x512_0_0).toLoadRect (harg2.unread x1))
      (View.readAt (Elt F) arg3.view (Rect.unit ![0, 0] S1x512.size inb_S1x512_S1x512_0_0).toLoadRect (harg3.unread x2))
      (View.readAt (Elt F) arg4.view (Rect.unit ![0, 0] S16x1.size inb_S16x1_S16x1_0_0).toLoadRect (harg4.unread x3))
      (View.readAt (Elt F) arg5.view (Rect.unit ![0, 0] S16x1.size inb_S16x1_S16x1_0_0).toLoadRect (harg5.unread x4))
      (View.readAt (Elt F) arg6.view (Rect.unit ![0, 0] S16x1.size inb_S16x1_S16x1_0_0).toLoadRect (harg6.unread x5))
      (View.readAt (Elt F) arg7.view (Rect.unit ![0, 0] S512x128.size inb_S512x128_S512x128_0_0).toLoadRect (harg7.unread x6))
      (View.readAt (Elt F) arg8.view (Rect.unit ![0, 0] S128x128.size inb_S128x128_S128x128_0_0).toLoadRect (harg8.unread x7))
      (View.readAt (Elt F) arg9.view (Rect.unit ![0, 0] S3x128.size inb_S3x128_S3x128_0_0).toLoadRect (harg9.unread x8))
      (View.readAt (Elt F) arg10.view (Rect.unit ![0, 0] S1x128.size inb_S1x128_S1x128_0_0).toLoadRect (harg10.unread x9))
      (View.readAt (Elt F) arg11.view (Rect.unit ![0, 0] S128x128.size inb_S128x128_S128x128_0_0).toLoadRect (harg11.unread x10))
      (View.readAt (Elt F) arg12.view (Rect.unit ![0, 0] S1x128.size inb_S1x128_S1x128_0_0).toLoadRect (harg12.unread x11))
      (View.readAt (Elt F) arg13.view (Rect.unit ![0, 0] S128x256.size inb_S128x256_S128x256_0_0).toLoadRect (harg13.unread x12))
      (View.readAt (Elt F) arg14.view (Rect.unit ![0, 0] S1x256.size inb_S1x256_S1x256_0_0).toLoadRect (harg14.unread x13))⟩] := by
  sl_kernel_rfl

/-- A load of a whole buffer, held at the contents that read `X`, reads `X`. -/
theorem load_whole {sp : Space} {s : Shape} {e : EltTy} {m : Memref sig .tc sp s e} (h : m.IsWhole) (X : s.Idx → Elt F e)
    {off : Fin s.rank → ℕ} (inb : ∀ a, off a + s.size a ≤ s.size a) :
    View.readAt (Elt F) m.view (Rect.unit off s.size inb).toLoadRect (h.unread X) = X :=
  (View.readAt_full m.view (h.unread X) inb).trans (h.read_unread X)

/-- What the body's run leaves in its output's buffer is the block of its input blocks. -/
theorem out_eq (c : Dev nD) (i : grid0.Coords) (arg1 : Memref sig .tc .vmem S1x512 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S512x128 .f32) (harg7 : arg7.IsWhole) (arg8 : Memref sig .tc .vmem S128x128 .f32) (harg8 : arg8.IsWhole) (arg9 : Memref sig .tc .vmem S3x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x256 .f32) (harg13 : arg13.IsWhole) (arg14 : Memref sig .tc .vmem S1x256 .f32) (harg14 : arg14.IsWhole) (arg15 : Memref sig .tc .vmem S16x256 .f32) (harg15 : arg15.IsWhole) (arg16 : Memref sig .tc .vmem S8x128 .f32) (harg16 : arg16.IsWhole)
    (x0 : Vec F S1x512 .f32) (x1 : Vec F S1x512 .f32) (x2 : Vec F S1x512 .f32) (x3 : Vec F S16x1 .f32) (x4 : Vec F S16x1 .f32) (x5 : Vec F S16x1 .f32) (x6 : Vec F S512x128 .f32) (x7 : Vec F S128x128 .f32) (x8 : Vec F S3x128 .f32) (x9 : Vec F S1x128 .f32) (x10 : Vec F S128x128 .f32) (x11 : Vec F S1x128 .f32) (x12 : Vec F S128x256 .f32) (x13 : Vec F S1x256 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 = block x0 x1 x2 x3 x4 x5 x6 x7 x8 x9 x10 x11 x12 x13 := by
  unfold out0_A_14
  rw [run_pieces, View.read_writes_full]
  rw [load_whole harg1, load_whole harg2, load_whole harg3, load_whole harg4, load_whole harg5, load_whole harg6, load_whole harg7, load_whole harg8, load_whole harg9, load_whole harg10, load_whole harg11, load_whole harg12, load_whole harg13, load_whole harg14]

end Cert.Group
-- ==== Proof.Rank.lean ====
/- The order in which a stable sort lists a row of extended reals, and the same order by repeated removal
   of the first least element. -/
module

public import Idealize.ShloMosaic.Lib.SortFacts
public import Mathlib.Data.EReal.Basic

@[expose] public section

noncomputable section

namespace Cert.Rank

open Idealize.ShloMosaic

/-- `k` comes before `k'` where its value is smaller. -/
def before {n : ℕ} (d : Fin n → EReal) (k k' : Fin n) : Bool := decide (d k < d k')

/-- The same with equal values in the order of their positions. -/
def lexBefore {n : ℕ} (d : Fin n → EReal) (k k' : Fin n) : Bool :=
  decide (d k < d k' ∨ (d k = d k' ∧ k < k'))

/-- Insertion asks the relation only whether an element of the list goes before the new one. -/
theorem insert_congr {ι : Type} (R R' : ι → ι → Bool) (a : ι) (l : List ι) (h : ∀ b ∈ l, R b a = R' b a) :
    insertBefore R a l = insertBefore R' a l := by
  induction l with
  | nil => rfl
  | cons b l ih =>
    unfold insertBefore
    rw [h b (by simp), ih fun c hc => h c (by simp [hc])]

/-- A stable sort of an increasing list by value alone is the sort by value and position. -/
theorem stableSort_lex {n : ℕ} (d : Fin n → EReal) (l : List (Fin n)) (hl : l.Pairwise (· < ·)) :
    stableSort (before d) l = stableSort (lexBefore d) l := by
  induction l with
  | nil => rfl
  | cons a l ih =>
    rw [List.pairwise_cons] at hl
    unfold stableSort
    rw [ih hl.2]
    refine insert_congr _ _ _ _ fun b hb => ?_
    have hb' : b ∈ l := (perm_stableSort _ l).mem_iff.mp hb
    have hab := hl.1 b hb'
    simp only [before, lexBefore, decide_eq_decide]
    constructor
    · exact Or.inl
    · rintro (h | ⟨_, h⟩)
      · exact h
      · exact absurd h (not_lt.mpr hab.le)

/-- The position that the sort puts at rank `t`. -/
def rank {n : ℕ} (d : Fin n → EReal) : Fin n → Fin n := sortedFrom (before d)

/-- The order by value alone, stably sorted, is the order by value and position. -/
theorem rank_eq_lex {n : ℕ} (d : Fin n → EReal) : rank d = sortedFrom (lexBefore d) := by
  have h : sortPositions n (before d) = sortPositions n (lexBefore d) :=
    stableSort_lex d _ (by simpa using List.pairwise_lt_finRange n)
  funext k
  unfold rank sortedFrom
  simp only [List.get_eq_getElem, h]
  rfl

/-- Earlier ranks have smaller values, and equal values in the order of their positions. -/
theorem rank_lt {n : ℕ} (d : Fin n → EReal) (i j : Fin n) (h : i < j) :
    d (rank d i) < d (rank d j) ∨ (d (rank d i) = d (rank d j) ∧ rank d i < rank d j) := by
  have hne : rank d i ≠ rank d j := fun e => h.ne (sortedFrom_injective _ e)
  have := sortedFrom_noInversion (lexBefore d) (lexBefore d)
    (by
      intro a b hab
      simp only [lexBefore, decide_eq_true_eq, decide_eq_false_iff_not] at hab ⊢
      rintro (h' | ⟨e, h'⟩)
      · rcases hab with h | ⟨e, _⟩
        · exact absurd h h'.not_gt
        · exact absurd e h'.ne'
      · rcases hab with h | ⟨_, h⟩
        · exact absurd e h.ne'
        · exact absurd h h'.not_gt)
    (fun _ _ h => h)
    (by
      intro a b c hab hbc
      simp only [lexBefore, decide_eq_false_iff_not, not_or, not_lt, not_and] at hab hbc ⊢
      refine ⟨hbc.1.trans hab.1, fun e => ?_⟩
      have e1 : d a = d b := le_antisymm (e ▸ hbc.1) hab.1
      exact (hbc.2 (e1 ▸ e)).trans (hab.2 e1)) i j h
  rw [← rank_eq_lex] at this
  simp only [lexBefore, decide_eq_false_iff_not, not_or, not_lt, not_and] at this
  rcases lt_or_eq_of_le this.1 with h | h
  · exact Or.inl h
  · exact Or.inr ⟨h, lt_of_le_of_ne (this.2 h.symm) hne⟩

/-- Later ranks have no smaller values. -/
theorem rank_le {n : ℕ} (d : Fin n → EReal) (i j : Fin n) (h : i ≤ j) : d (rank d i) ≤ d (rank d j) := by
  rcases lt_or_eq_of_le h with h | rfl
  · rcases rank_lt d i j h with h | h
    · exact h.le
    · exact h.1.le
  · exact le_rfl

/-- The row with the positions of the first `t` ranks removed: their values are `⊤`. -/
def left {n : ℕ} (d : Fin n → EReal) (t : ℕ) (k : Fin n) : EReal :=
  open Classical in if ∃ s : Fin n, s.val < t ∧ rank d s = k then ⊤ else d k

/-- Nothing is removed at first. -/
theorem left_zero {n : ℕ} (d : Fin n → EReal) : left d 0 = d := by
  funext k
  simp [left]

/-- What is left at the position of a rank. -/
theorem left_rank {n : ℕ} (d : Fin n → EReal) (t s : Fin n) :
    left d t (rank d s) = if s < t then ⊤ else d (rank d s) := by
  unfold left
  by_cases h : s < t
  · rw [if_pos ⟨s, h, rfl⟩, if_pos h]
  · rw [if_neg, if_neg h]
    rintro ⟨s', hs, e⟩
    exact h (sortedFrom_injective _ e ▸ hs)

/-- What is left after `t` removals has the value of rank `t` as its least. -/
theorem le_left {n : ℕ} (d : Fin n → EReal) (t k : Fin n) : d (rank d t) ≤ left d t k := by
  obtain ⟨s, rfl⟩ := sortedFrom_surjective (before d) k
  show _ ≤ left d t (rank d s)
  rw [left_rank]
  split
  · exact le_top
  · exact rank_le d t s (not_lt.mp ‹_›)

/-- The position of rank `t` is still there after `t` removals. -/
theorem left_self {n : ℕ} (d : Fin n → EReal) (t : Fin n) : left d t (rank d t) = d (rank d t) := by
  rw [left_rank, if_neg (lt_irrefl t)]

/-- The first position of the least value left is the position of rank `t`, where that value is not `⊤`. -/
theorem first_eq {n : ℕ} (d : Fin n → EReal) (t p : Fin n) (hp : left d t p = d (rank d t))
    (hfirst : ∀ k, left d t k = d (rank d t) → p ≤ k) (hfin : d (rank d t) < ⊤) : p = rank d t := by
  refine le_antisymm (hfirst _ (left_self d t)) ?_
  obtain ⟨s, rfl⟩ := sortedFrom_surjective (before d) p
  change left d t (rank d s) = _ at hp
  show rank d t ≤ rank d s
  rw [left_rank] at hp
  split at hp
  · exact absurd hp hfin.ne'
  · rename_i h
    rcases lt_or_eq_of_le (not_lt.mp h) with h | rfl
    · rcases rank_lt d t s h with h | h
      · exact absurd hp h.ne'
      · exact h.2.le
    · exact le_rfl

/-- Removing the first position of the least value left makes what is left after one more removal. -/
theorem left_succ {n : ℕ} (d : Fin n → EReal) (t p : Fin n) (hp : left d t p = d (rank d t))
    (hfirst : ∀ k, left d t k = d (rank d t) → p ≤ k) (k : Fin n) :
    left d (t.val + 1) k = if k = p then ⊤ else left d t k := by
  by_cases hfin : d (rank d t) < ⊤
  · have e := first_eq d t p hp hfirst hfin
    subst e
    unfold left
    by_cases hk : k = rank d t
    · rw [if_pos ⟨t, Nat.lt_succ_self _, hk.symm⟩, if_pos hk]
    · rw [if_neg hk]
      congr 1
      refine propext ⟨?_, fun ⟨s, hs, e⟩ => ⟨s, hs.trans (Nat.lt_succ_self _), e⟩⟩
      rintro ⟨s, hs, e⟩
      rcases Nat.lt_succ_iff_lt_or_eq.mp hs with h | h
      · exact ⟨s, h, e⟩
      · exact absurd (by rw [← e]; congr 1; exact Fin.ext h) hk
  · have htop : d (rank d t) = ⊤ := not_lt_top_iff.mp hfin
    have hall : ∀ k, left d t k = ⊤ := fun k => top_le_iff.mp (htop ▸ le_left d t k)
    rw [hall, ite_self]
    obtain ⟨s, rfl⟩ := sortedFrom_surjective (before d) k
    have := hall (rank d s)
    unfold left at this ⊢
    split
    · rfl
    · rename_i h
      rw [if_neg fun ⟨s', hs, e⟩ => h ⟨s', hs.trans (Nat.lt_succ_self _), e⟩] at this
      exact this

end Cert.Rank

end
end
-- ==== Proof.Reading.lean ====
module

public import proofs.«01_k».proof.Proof.Round
public import proofs.«01_k».proof.Proof.Rank
public import Idealize.ShloMosaic.Lib.Pipeline.Value
public import Idealize.ShloMosaic.Lib.ValueLayout
public import Idealize.ShloMosaic.Lib.ValueLayoutCasts
public import Idealize.ShloMosaic.Lib.MatmulPlain
public import Idealize.ShloMosaic.Lib.SortNet.Extract

/- The rounds of the grouping kernel read in the ideal arithmetic: after `t` rounds a row holds the
   distances with its first `t` ranks at infinity, so round `t` finds the distance of rank `t`. -/

@[expose] public section

set_option maxRecDepth 16384

noncomputable section

namespace Cert.Group

open Idealize.ShloMosaic Idealize.ShloMosaic.ValueIdx Idealize.SL.Sem Cert.KernelIdeal Cert.KernelIdeal.Gen Cert.Rank

/-- A row of a block of distances. -/
def row (d : FVec Ideal S16x512 .f32) (i : Fin 16) : Fin 512 → EReal := fun k => d (ix2 i k)

/-- The cell of a row that a reduction along the row reads. -/
theorem lift_row (i : Fin 16) (k : Fin 512) : reduces_S16x512_S16.lift (ix1 i) k = ix2 i k := by
  funext c
  match c with
  | ⟨0, _⟩ => rfl
  | ⟨1, _⟩ => rfl

/-- The word of plus infinity, -/
theorem bits_top : Ideal.ofBits .f32 0x7F800000#32 = ⊤ := by
  simp [Ideal.ofBits, Ideal.ieee]

/-- of minus infinity, -/
theorem bits_bot : Ideal.ofBits .f32 0xFF800000#32 = ⊥ := by
  simp [Ideal.ofBits, Ideal.ieee]

/-- and of one. -/
theorem bits_one : Ideal.ofBits .f32 0x3F800000#32 = 1 := by
  simp [Ideal.ofBits, Ideal.ieee]
  norm_cast
  norm_num

/-- A choice by a comparison is a choice by its truth. -/
theorem select_ofBool {α : Type} (b : Bool) (x y : α) : Scalar.select (BitVec.ofBool b) x y = if b then x else y := by
  cases b <;> rfl

/-- A column of row statistics spread over the row. -/
theorem spread {α : Type} (v : S16x1.Idx → α) (i : Fin 16) (k : Fin 512) :
    broadcastTo S16x512 v broadcasts_S16x1_S16x512 (ix2 i k) = v (ix2 i 0) :=
  broadcastTo_apply v _ _ _ fun a => by
    match a with
    | ⟨0, _⟩ => rfl
    | ⟨1, _⟩ => rfl

/-- The least value of a row as a fold over it. -/
theorem least_fold (d : FVec Ideal S16x512 .f32) (i : Fin 16) :
    least d (ix2 i 0) = (Finset.univ : Finset (Fin 512)).fold min ⊤ (row d i) := by
  unfold least
  refine (shapeCast_a_a1_apply _ _ i 0).trans ?_
  refine (multiReduction_minimumf_eq_fold d _ reduces_S16x512_S16 _ _ (ix1 i)).trans ?_
  refine (reduces_S16x512_S16.fold_filter_drop_single _ _ d (ix1 i)).trans ?_
  have e : d ∘ reduces_S16x512_S16.lift (ix1 i) = row d i := funext fun k => congrArg d (lift_row i k)
  rw [e]
  exact congrArg (fun b => Finset.fold min b (row d i) Finset.univ) bits_top

/-- No value of the row is below its least, -/
theorem least_le (d : FVec Ideal S16x512 .f32) (i : Fin 16) (k : Fin 512) : least d (ix2 i 0) ≤ row d i k := by
  rw [least_fold, Finset.fold_min_le]
  exact .inr ⟨k, Finset.mem_univ _, le_rfl⟩

/-- and some value is its least. -/
theorem least_mem (d : FVec Ideal S16x512 .f32) (i : Fin 16) : ∃ k, row d i k = least d (ix2 i 0) := by
  obtain ⟨k, -, h⟩ := Finset.exists_min_image (Finset.univ : Finset (Fin 512)) (row d i) ⟨0, Finset.mem_univ _⟩
  refine ⟨k, le_antisymm ?_ (least_le d i k)⟩
  rw [least_fold, Finset.le_fold_min]
  exact ⟨le_top, h⟩

/-- The first position of row `i` that holds the row's least value. -/
theorem first_exists (d : FVec Ideal S16x512 .f32) (i : Fin 16) :
    ∃ p : Fin 512, row d i p = least d (ix2 i 0) ∧ ∀ k, row d i k = least d (ix2 i 0) → p ≤ k := by
  classical
  obtain ⟨p, hp, h⟩ := Finset.exists_min_image (Finset.univ.filter fun k => row d i k = least d (ix2 i 0)) id
    (by obtain ⟨k, hk⟩ := least_mem d i; exact ⟨k, by simpa using hk⟩)
  exact ⟨p, by simpa using hp, fun k hk => h k (by simpa using hk)⟩

/-- The first position, as a chosen one. -/
def first (d : FVec Ideal S16x512 .f32) (i : Fin 16) : Fin 512 := (first_exists d i).choose

/-- The first position of the least value holds it, -/
theorem first_least (d : FVec Ideal S16x512 .f32) (i : Fin 16) : row d i (first d i) = least d (ix2 i 0) :=
  (first_exists d i).choose_spec.1

/-- and no earlier position does. -/
theorem first_le (d : FVec Ideal S16x512 .f32) (i : Fin 16) (k : Fin 512) (h : row d i k = least d (ix2 i 0)) : first d i ≤ k :=
  (first_exists d i).choose_spec.2 k h

/-- The position at a cell. -/
theorem place_apply (i : Fin 16) (k : Fin 512) : place (ix2 i k) = BitVec.ofNat 32 k.val :=
  iota_single_apply .tc S16x512 32 1 _ (ix2 i k)

/-- The first position of the least value, as the kernel computes it. -/
theorem firstPlace_apply (d : FVec Ideal S16x512 .f32) (i : Fin 16) :
    firstPlace d (ix2 i 0) = BitVec.ofNat 32 (first d i).val := by
  unfold firstPlace
  refine (shapeCast_a_a1_apply _ _ i 0).trans ?_
  refine (multiReductionI_eq_fold .minsi _ _ reduces_S16x512_S16 _ (ix1 i)).trans ?_
  refine (reduces_S16x512_S16.fold_filter_drop_single _ _ _ (ix1 i)).trans ?_
  apply BitVec.eq_of_toInt_eq
  have hv : ∀ k : Fin 512, ((select (cmpf .oeq d (broadcastTo S16x512 (least d) broadcasts_S16x1_S16x512)) place
      (broadcast S16x512 512#32)) ∘ reduces_S16x512_S16.lift (ix1 i)) k
      = if row d i k = least d (ix2 i 0) then BitVec.ofNat 32 k.val else 512#32 := by
    intro k
    show (select _ _ _) (reduces_S16x512_S16.lift (ix1 i) k) = _
    rw [lift_row]
    show Scalar.select (BitVec.ofBool (decide (d (ix2 i k) = broadcastTo S16x512 (least d) broadcasts_S16x1_S16x512 (ix2 i k))))
      (place (ix2 i k)) 512#32 = _
    rw [select_ofBool, spread, place_apply]
    by_cases h : d (ix2 i k) = least d (ix2 i 0)
    · rw [if_pos (decide_eq_true h), if_pos (show row d i k = _ from h)]
    · rw [decide_eq_false h, if_neg Bool.false_ne_true, if_neg (show ¬row d i k = _ from h)]
  rw [funext hv]
  have key := Finset.fold_hom (op := IKind.minsi.op) (op' := (min : ℤ → ℤ → ℤ)) (m := BitVec.toInt) (s := (Finset.univ : Finset (Fin 512)))
    (b := 2147483647#32) (f := fun k : Fin 512 => if row d i k = least d (ix2 i 0) then BitVec.ofNat 32 k.val else 512#32)
    (fun x y => SortNet.toInt_minsi x y)
  refine key.symm.trans ?_
  have hk : ∀ k : Fin 512, (BitVec.ofNat 32 k.val).toInt = (k.val : ℤ) := by
    intro k
    have := k.isLt
    rw [BitVec.toInt_eq_toNat_cond, BitVec.toNat_ofNat]
    split <;> omega
  have hf := (first d i).isLt
  refine le_antisymm ?_ ?_
  · rw [Finset.fold_min_le]
    refine .inr ⟨first d i, Finset.mem_univ _, ?_⟩
    rw [if_pos (first_least d i)]
  · rw [Finset.le_fold_min]
    refine ⟨?_, fun k _ => ?_⟩
    · rw [hk]
      show _ ≤ (2147483647 : ℤ)
      omega
    · by_cases h : row d i k = least d (ix2 i 0)
      · rw [if_pos h, hk, hk]
        exact_mod_cast first_le d i k h
      · rw [if_neg h, hk]
        show _ ≤ (512 : ℤ)
        omega

/-- The cell that a round takes is at the first position of the least value. -/
theorem hit_apply (d : FVec Ideal S16x512 .f32) (i : Fin 16) (k : Fin 512) :
    hit d (ix2 i k) = BitVec.ofBool (decide (k = first d i)) := by
  show BitVec.ofBool (place (ix2 i k) == broadcastTo S16x512 (firstPlace d) broadcasts_S16x1_S16x512 (ix2 i k)) = _
  rw [spread, place_apply, firstPlace_apply]
  have hk := k.isLt
  have hf := (first d i).isLt
  congr 1
  rw [Bool.eq_iff_iff]
  simp only [beq_iff_eq, decide_eq_true_eq]
  constructor
  · intro h
    have := congrArg BitVec.toNat h
    simp only [BitVec.toNat_ofNat] at this
    exact Fin.ext (by omega)
  · rintro h; rw [← h]

/-- A row's pick is the coordinate at its first least position. -/
theorem pick_apply (p : FVec Ideal S1x512 .f32) (d : FVec Ideal S16x512 .f32) (i : Fin 16) :
    pick p d (ix2 i 0) = p (ix2 0 (first d i)) := by
  unfold pick
  refine (shapeCast_a_a1_apply _ _ i 0).trans ?_
  refine (Ideal.multiReduction_add_single _ _ reduces_S16x512_S16 _ _ (ix1 i)).trans ?_
  refine (Finset.sum_congr rfl fun k _ => ?_).trans (Finset.sum_ite_eq' Finset.univ (first d i) fun k : Fin 512 => p (ix2 0 k)) |>.trans (if_pos (Finset.mem_univ _))
  refine (congrArg _ (lift_row i k)).trans ?_
  show Scalar.select (hit d (ix2 i k)) (broadcastTo S16x512 (shapeCast S1x512 p shapeCasts_S1x512_S1x512) broadcasts_S1x512_S16x512 (ix2 i k))
    (Ideal.ofBits .f32 0x00000000#32) = _
  rw [hit_apply, select_ofBool, shapeCast_self, Ideal.ofBits_zero_f32, broadcastTo_1b_ab_apply]
  simp

/-- The one-hot row, read at a cell. -/
theorem one_apply (d : FVec Ideal S16x512 .f32) (i : Fin 16) (k : Fin 512) :
    one d (ix2 i k) = if k = first d i then 1 else 0 := by
  show Scalar.select (hit d (ix2 i k)) (Ideal.ofBits .f32 0x3F800000#32) (Ideal.ofBits .f32 0x00000000#32) = _
  rw [hit_apply, select_ofBool, bits_one, Ideal.ofBits_zero_f32]
  simp

/-- What a round leaves, read at a cell. -/
theorem next_apply (d : FVec Ideal S16x512 .f32) (i : Fin 16) (k : Fin 512) :
    next d (ix2 i k) = if k = first d i then ⊤ else d (ix2 i k) := by
  show Scalar.select (hit d (ix2 i k)) (Ideal.ofBits .f32 0x7F800000#32) (d (ix2 i k)) = _
  rw [hit_apply, select_ofBool, bits_top]
  simp

/-- The least value of a row with `t` ranks gone is the value of rank `t`. -/
theorem least_of_left (d e : FVec Ideal S16x512 .f32) (i : Fin 16) (t : Fin 512) (he : row e i = left (row d i) t.val) :
    least e (ix2 i 0) = row d i (rank (row d i) t) := by
  refine le_antisymm ?_ ?_
  · have := least_le e i (rank (row d i) t)
    rwa [he, left_self] at this
  · obtain ⟨k, hk⟩ := least_mem e i
    rw [← hk, he]
    exact le_left _ _ _

/-- After `n` rounds each row holds its distances with the first `n` ranks at infinity. -/
theorem after_row (d : FVec Ideal S16x512 .f32) (i : Fin 16) (n : ℕ) (hn : n ≤ 512) :
    row (after d n) i = left (row d i) n := by
  induction n with
  | zero => exact (left_zero _).symm
  | succ n ih =>
    have hn' : n < 512 := hn
    have ih := ih hn'.le
    have hl := least_of_left d (after d n) i ⟨n, hn'⟩ ih
    funext k
    have hs := left_succ (row d i) ⟨n, hn'⟩ (first (after d n) i)
      (by have := first_least (after d n) i; rw [hl, ih] at this; exact this)
      (fun k hk => first_le (after d n) i k (by rw [hl, ih]; exact hk)) k
    rw [hs]
    show next (after d n) (ix2 i k) = _
    rw [next_apply, ← ih]
    rfl

/-- Round `t` finds the value of rank `t`. -/
theorem least_after (d : FVec Ideal S16x512 .f32) (i : Fin 16) (t : Fin 512) :
    least (after d t) (ix2 i 0) = row d i (rank (row d i) t) :=
  least_of_left d _ i t (after_row d i t t.isLt.le)

/-- Round `t` takes the position of rank `t` where its value is not infinite. -/
theorem first_after (d : FVec Ideal S16x512 .f32) (i : Fin 16) (t : Fin 512) (h : row d i (rank (row d i) t) < ⊤) :
    first (after d t) i = rank (row d i) t := by
  have ha := after_row d i t t.isLt.le
  have hl := least_after d i t
  exact first_eq (row d i) t _ (by have := first_least (after d t) i; rwa [hl, ha] at this)
    (fun k hk => first_le (after d t) i k (by rw [hl, ha]; exact hk)) h

end Cert.Group
-- ==== Proof.Plain.lean ====
module

public import proofs.«01_k».proof.Proof.Rank
public import Idealize.ShloMosaic.PureOps.Ideal.Laws

/- The network's two parts as plain functions of numbered coordinates: the features of the points near
   a centre, pooled, and the classifier of the 128 pooled centres. -/

@[expose] public section

noncomputable section

namespace Cert.Plain

open Idealize.ShloMosaic Cert.Rank

/-- A layer: weights, offsets, and the positive part. -/
def dense {m n : ℕ} (w : Fin m → Fin n → EReal) (b : Fin n → EReal) (x : Fin m → EReal) (j : Fin n) : EReal :=
  max ((∑ k, x k * w k j) + b j) 0

/-- A layer of features and three coordinates, each with weights of its own. -/
def mix {m n : ℕ} (w : Fin m → Fin n → EReal) (v : Fin 3 → Fin n → EReal) (b : Fin n → EReal) (x : Fin m → EReal)
    (r : Fin 3 → EReal) (j : Fin n) : EReal :=
  max (((∑ k, x k * w k j) + ∑ a, r a * v a j) + b j) 0

/-- The squared distance from the centre `q` to point `k`, infinite outside the ball. -/
def ball (p : Fin 3 → Fin 512 → EReal) (q : Fin 3 → EReal) (k : Fin 512) : EReal :=
  let u := max ((((q 0 * q 0 + q 1 * q 1) + q 2 * q 2) + ((p 0 k * p 0 k + p 1 k * p 1 k) + p 2 k * p 2 k))
    - Ideal.ofBits .f32 0x40000000#32 * ∑ a, q a * p a k) 0
  if u ≤ Ideal.ofBits .f32 0x3E23D70A#32 then u else ⊤

/-- The feature of point `s` as the centre `q` sees it. -/
def feature (p : Fin 3 → Fin 512 → EReal) (x : Fin 512 → Fin 128 → EReal) (wa : Fin 128 → Fin 128 → EReal) (wb : Fin 3 → Fin 128 → EReal)
    (b₁ : Fin 128 → EReal) (w₂ : Fin 128 → Fin 128 → EReal) (b₂ : Fin 128 → EReal) (w₃ : Fin 128 → Fin 256 → EReal) (b₃ : Fin 256 → EReal)
    (q : Fin 3 → EReal) (s : Fin 512) : Fin 256 → EReal :=
  dense w₃ b₃ (dense w₂ b₂ (mix wa wb b₁ (x s) fun a => p a s - q a))

/-- Position `t` of the sixty-four nearest. -/
def near (d : Fin 512 → EReal) (t : Fin 64) : Fin 512 := rank d ⟨t.val, by omega⟩

/-- The greatest of `f` over the nearest points that lie in the ball. -/
def pooled (d : Fin 512 → EReal) (f : Fin 512 → EReal) : EReal :=
  (Finset.univ : Finset (Fin 64)).fold max ⊥ fun t => if d (near d t) < ⊤ then f (near d t) else ⊥

/-- The pooled feature `c` of the centre `q`. -/
def group (p : Fin 3 → Fin 512 → EReal) (x : Fin 512 → Fin 128 → EReal) (wa : Fin 128 → Fin 128 → EReal) (wb : Fin 3 → Fin 128 → EReal)
    (b₁ : Fin 128 → EReal) (w₂ : Fin 128 → Fin 128 → EReal) (b₂ : Fin 128 → EReal) (w₃ : Fin 128 → Fin 256 → EReal) (b₃ : Fin 256 → EReal)
    (q : Fin 3 → EReal) (c : Fin 256) : EReal :=
  pooled (ball p q) fun s => feature p x wa wb b₁ w₂ b₂ w₃ b₃ q s c

/-- The classifier: the pooled centres and their places about the mean, a perceptron, the greatest over
    the centres, two layers and a last linear one. -/
def classify (x : Fin 128 → Fin 256 → EReal) (q : Fin 3 → Fin 128 → EReal) (wa : Fin 256 → Fin 256 → EReal) (wb : Fin 3 → Fin 256 → EReal)
    (b₁ : Fin 256 → EReal) (w₂ : Fin 256 → Fin 512 → EReal) (b₂ : Fin 512 → EReal) (w₃ : Fin 512 → Fin 1024 → EReal) (b₃ : Fin 1024 → EReal)
    (w₄ : Fin 1024 → Fin 512 → EReal) (b₄ : Fin 512 → EReal) (w₅ : Fin 512 → Fin 256 → EReal) (b₅ : Fin 256 → EReal)
    (w₆ : Fin 256 → Fin 40 → EReal) (b₆ : Fin 40 → EReal) (j : Fin 40) : EReal :=
  let g : Fin 1024 → EReal := fun k => (Finset.univ : Finset (Fin 128)).fold max ⊥ fun n =>
    dense w₃ b₃ (dense w₂ b₂ (mix wa wb b₁ (x n) fun a => q a n - Ideal.div (∑ i, q a i) (Ideal.ofBits .f32 0x43000000#32))) k
  (∑ k, dense w₅ b₅ (dense w₄ b₄ g) k * w₆ k j) + b₆ j

end Cert.Plain
-- ==== Proof.Layers.lean ====
module

public import proofs.«01_k».proof.Proof.Reading
public import proofs.«01_k».proof.Proof.Plain

/- A block of the grouping kernel's result, read: row `i` is the pooled features of the block's centre `i`. -/

@[expose] public section

set_option maxRecDepth 16384

noncomputable section

namespace Cert.Group

open Idealize.ShloMosaic Idealize.ShloMosaic.ValueIdx Idealize.SL.Sem Cert.KernelIdeal Cert.KernelIdeal.Gen Cert.Rank Cert.Plain

/-- A product of matrices added to zeros, read at a cell. -/
theorem product {M K N : ℕ} (D : DotDims ⟨2, ![M, K]⟩ ⟨2, ![K, N]⟩ ⟨2, ![M, N]⟩) (hD : D = DotDims.plain M K N)
    (prec : Option ContractPrecision) (l : FVec Ideal ⟨2, ![M, K]⟩ .f32) (r : FVec Ideal ⟨2, ![K, N]⟩ .f32) (i : Fin M) (j : Fin N) :
    matmul D prec l r (constant ⟨2, ![M, N]⟩ .f32 0x00000000#32) (ix2 i j) = ∑ k : Fin K, l (ix2 i k) * r (ix2 k j) := by
  subst hD
  refine (Ideal.matmul_plain_apply prec l r _ i j).trans ?_
  show Ideal.ofBits .f32 0x00000000#32 + _ = _
  rw [Ideal.ofBits_zero_f32, zero_add]

/-- Three columns side by side, read at a cell. -/
theorem columns {n : ℕ} (f : Fin 3 → (⟨2, ![n, 1]⟩ : Shape).Idx → EReal)
    (h : Shape.Concatenates ((List.ofFn fun a : Fin 3 => (⟨⟨2, ![n, 1]⟩, f a⟩ : (s : Shape) × (s.Idx → EReal))).map (·.1)) ⟨2, ![n, 3]⟩ 1)
    (r : Fin n) (a : Fin 3) :
    concatenate (⟨2, ![n, 3]⟩ : Shape) 1 (List.ofFn fun a : Fin 3 => ⟨⟨2, ![n, 1]⟩, f a⟩) h (ix2 r a) = f a (ix2 r 0) :=
  concatenate_ofFn_apply (t := ⟨2, ![n, 3]⟩) 1 f h rfl 1 rfl (ix2 r a) a (Nat.div_one _) (ix2 r 0) (Nat.mod_one _).symm fun b hb => by
    match b with
    | ⟨0, _⟩ => rfl
    | ⟨1, _⟩ => exact absurd rfl hb

/-- Three rows one under the other, read at a cell. -/
theorem rows {n : ℕ} (f : Fin 3 → (⟨2, ![1, n]⟩ : Shape).Idx → EReal)
    (h : Shape.Concatenates ((List.ofFn fun a : Fin 3 => (⟨⟨2, ![1, n]⟩, f a⟩ : (s : Shape) × (s.Idx → EReal))).map (·.1)) ⟨2, ![3, n]⟩ 0)
    (a : Fin 3) (k : Fin n) :
    concatenate (⟨2, ![3, n]⟩ : Shape) 0 (List.ofFn fun a : Fin 3 => ⟨⟨2, ![1, n]⟩, f a⟩) h (ix2 a k) = f a (ix2 0 k) :=
  concatenate_ofFn_apply (t := ⟨2, ![3, n]⟩) 0 f h rfl 1 rfl (ix2 a k) a (Nat.div_one _) (ix2 0 k) (Nat.mod_one _).symm fun b hb => by
    match b with
    | ⟨0, _⟩ => exact absurd rfl hb
    | ⟨1, _⟩ => rfl

/-- Row `16 t + i` of a stack. -/
def at_ (t : Fin 64) (i : Fin 16) : Fin 1024 := ⟨16 * t.val + i.val, by omega⟩

/-- A row of the stacked columns. -/
theorem stack_apply (f : ℕ → FVec Ideal S16x1 .f32) (t : Fin 64) (i : Fin 16) : stack f (ix2 (at_ t i) 0) = f t.val (ix2 i 0) :=
  concatenate_ofFn_apply (t := S1024x1) 0 (fun t : Fin 64 => f t) (stack_ok f) rfl 16 rfl (ix2 (at_ t i) 0) t
    (show (16 * t.val + i.val) / 16 = t.val by omega) (ix2 i 0) (show i.val = (16 * t.val + i.val) % 16 by omega) fun b hb => by
    match b with
    | ⟨0, _⟩ => exact absurd rfl hb
    | ⟨1, _⟩ => rfl

/-- A row of the stacked blocks. -/
theorem stackWide_apply (f : ℕ → FVec Ideal S16x512 .f32) (t : Fin 64) (i : Fin 16) (k : Fin 512) :
    stackWide f (ix2 (at_ t i) k) = f t.val (ix2 i k) :=
  concatenate_ofFn_apply (t := S1024x512) 0 (fun t : Fin 64 => f t) (stackWide_ok f) rfl 16 rfl (ix2 (at_ t i) k) t
    (show (16 * t.val + i.val) / 16 = t.val by omega) (ix2 i k) (show i.val = (16 * t.val + i.val) % 16 by omega) fun b hb => by
    match b with
    | ⟨0, _⟩ => exact absurd rfl hb
    | ⟨1, _⟩ => rfl

/-- A layer of the kernel, read at a cell. -/
theorem layer {M K N : ℕ} (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (b : FVec Ideal ⟨2, ![1, N]⟩ .f32)
    (hb : (⟨2, ![1, N]⟩ : Shape).Broadcasts ⟨2, ![M, N]⟩) (hs : (⟨2, ![1, N]⟩ : Shape).ShapeCasts ⟨2, ![1, N]⟩) (i : Fin M) (j : Fin N) :
    maximumf (addf (matmul D none l r (constant ⟨2, ![M, N]⟩ .f32 0x00000000#32)) (broadcastTo ⟨2, ![M, N]⟩ (shapeCast ⟨2, ![1, N]⟩ b hs) hb))
      (broadcast ⟨2, ![M, N]⟩ (Scalar.ofBits (F := Ideal) .f32 0x00000000#32)) (ix2 i j)
      = dense (fun k j => r (ix2 k j)) (fun j => b (ix2 0 j)) (fun k => l (ix2 i k)) j := by
  show max (matmul D none l r (constant ⟨2, ![M, N]⟩ .f32 0x00000000#32) (ix2 i j)
    + broadcastTo ⟨2, ![M, N]⟩ (shapeCast ⟨2, ![1, N]⟩ b hs) hb (ix2 i j)) (Ideal.ofBits .f32 0x00000000#32) = _
  rw [product D hD, Ideal.ofBits_zero_f32, shapeCast_self, broadcastTo_1b_ab_apply]
  rfl

/-- The first layer of a perceptron, on features and three coordinates, read at a cell. -/
theorem mixed {M K N : ℕ} (D : DotDims ⟨2, ![M, K]⟩ ⟨2, ![K, N]⟩ ⟨2, ![M, N]⟩) (hD : D = DotDims.plain M K N)
    (E : DotDims ⟨2, ![M, 3]⟩ ⟨2, ![3, N]⟩ ⟨2, ![M, N]⟩) (hE : E = DotDims.plain M 3 N)
    (g : FVec Ideal ⟨2, ![M, K]⟩ .f32) (wa : FVec Ideal ⟨2, ![K, N]⟩ .f32) (c : FVec Ideal ⟨2, ![M, 3]⟩ .f32) (wb : FVec Ideal ⟨2, ![3, N]⟩ .f32)
    (b : FVec Ideal ⟨2, ![1, N]⟩ .f32) (ha : (⟨2, ![K, N]⟩ : Shape).ShapeCasts ⟨2, ![K, N]⟩) (hw : (⟨2, ![3, N]⟩ : Shape).ShapeCasts ⟨2, ![3, N]⟩)
    (hb : (⟨2, ![1, N]⟩ : Shape).Broadcasts ⟨2, ![M, N]⟩) (hs : (⟨2, ![1, N]⟩ : Shape).ShapeCasts ⟨2, ![1, N]⟩) (i : Fin M) (j : Fin N) :
    maximumf
      (addf
        (addf (matmul D none g (shapeCast ⟨2, ![K, N]⟩ wa ha) (constant ⟨2, ![M, N]⟩ .f32 0x00000000#32))
          (matmul E none c (shapeCast ⟨2, ![3, N]⟩ wb hw) (constant ⟨2, ![M, N]⟩ .f32 0x00000000#32)))
        (broadcastTo ⟨2, ![M, N]⟩ (shapeCast ⟨2, ![1, N]⟩ b hs) hb))
      (broadcast ⟨2, ![M, N]⟩ (Scalar.ofBits (F := Ideal) .f32 0x00000000#32)) (ix2 i j)
      = mix (fun k j => wa (ix2 k j)) (fun a j => wb (ix2 a j)) (fun j => b (ix2 0 j)) (fun k => g (ix2 i k)) (fun a => c (ix2 i a)) j := by
  show max ((matmul D none g (shapeCast ⟨2, ![K, N]⟩ wa ha) (constant ⟨2, ![M, N]⟩ .f32 0x00000000#32) (ix2 i j)
      + matmul E none c (shapeCast ⟨2, ![3, N]⟩ wb hw) (constant ⟨2, ![M, N]⟩ .f32 0x00000000#32) (ix2 i j))
    + broadcastTo ⟨2, ![M, N]⟩ (shapeCast ⟨2, ![1, N]⟩ b hs) hb (ix2 i j)) (Ideal.ofBits .f32 0x00000000#32) = _
  rw [product D hD, product E hE, Ideal.ofBits_zero_f32, shapeCast_self, shapeCast_self, shapeCast_self, broadcastTo_1b_ab_apply]
  rfl

/-- The coordinates of the points, from the three rows of a block. -/
def points (x0 x1 x2 : FVec Ideal S1x512 .f32) (a : Fin 3) (k : Fin 512) : EReal := ![x0, x1, x2] a (ix2 0 k)

/-- The coordinates of a block's centre. -/
def centre (x3 x4 x5 : FVec Ideal S16x1 .f32) (i : Fin 16) (a : Fin 3) : EReal := ![x3, x4, x5] a (ix2 i 0)

/-- A row of the kernel's distances is the network's. -/
theorem dist_row (x0 x1 x2 : FVec Ideal S1x512 .f32) (x3 x4 x5 : FVec Ideal S16x1 .f32) (i : Fin 16) :
    row (dist x0 x1 x2 x3 x4 x5) i = ball (points x0 x1 x2) (centre x3 x4 x5 i) := by
  funext k
  unfold row dist
  have hm : matmul dot_S16x3_S3x512_S16x512_1_0_0_1_n_n none
      (concatenate S16x3 1 [⟨S16x1, x3⟩, ⟨S16x1, x4⟩, ⟨S16x1, x5⟩] concatenates_S16x1_S16x1_S16x1_S16x3_d1)
      (concatenate S3x512 0 [⟨S1x512, shapeCast S1x512 x0 shapeCasts_S1x512_S1x512⟩, ⟨S1x512, shapeCast S1x512 x1 shapeCasts_S1x512_S1x512⟩,
        ⟨S1x512, shapeCast S1x512 x2 shapeCasts_S1x512_S1x512⟩] concatenates_S1x512_S1x512_S1x512_S3x512_d0)
      (constant S16x512 .f32 0x00000000#32) (ix2 i k) = ∑ a, centre x3 x4 x5 i a * points x0 x1 x2 a k := by
    refine (product _ rfl none _ _ i k).trans (Finset.sum_congr rfl fun a _ => ?_)
    refine congrArg₂ (· * ·) (columns ![x3, x4, x5] concatenates_S16x1_S16x1_S16x1_S16x3_d1 i a)
      ((rows ![shapeCast S1x512 x0 shapeCasts_S1x512_S1x512, shapeCast S1x512 x1 shapeCasts_S1x512_S1x512,
        shapeCast S1x512 x2 shapeCasts_S1x512_S1x512] concatenates_S1x512_S1x512_S1x512_S3x512_d0 a k).trans ?_)
    rw [shapeCast_self, shapeCast_self, shapeCast_self]
    rfl
  generalize matmul dot_S16x3_S3x512_S16x512_1_0_0_1_n_n none
      (concatenate S16x3 1 [⟨S16x1, x3⟩, ⟨S16x1, x4⟩, ⟨S16x1, x5⟩] concatenates_S16x1_S16x1_S16x1_S16x3_d1)
      (concatenate S3x512 0 [⟨S1x512, shapeCast S1x512 x0 shapeCasts_S1x512_S1x512⟩, ⟨S1x512, shapeCast S1x512 x1 shapeCasts_S1x512_S1x512⟩,
        ⟨S1x512, shapeCast S1x512 x2 shapeCasts_S1x512_S1x512⟩] concatenates_S1x512_S1x512_S1x512_S3x512_d0)
      (constant S16x512 .f32 0x00000000#32) = m at hm ⊢
  simp only [shapeCast_self]
  have hq := spread (addf (F := Ideal) (addf (mulf x3 x3) (mulf x4 x4)) (mulf x5 x5)) i k
  have hp := broadcastTo_1b_ab_apply (addf (F := Ideal) (addf (mulf x0 x0) (mulf x1 x1)) (mulf x2 x2)) broadcasts_S1x512_S16x512 i k
  generalize broadcastTo S16x512 (addf (F := Ideal) (addf (mulf x3 x3) (mulf x4 x4)) (mulf x5 x5)) broadcasts_S16x1_S16x512 = y at hq ⊢
  generalize broadcastTo S16x512 (addf (F := Ideal) (addf (mulf x0 x0) (mulf x1 x1)) (mulf x2 x2)) broadcasts_S1x512_S16x512 = z at hp ⊢
  show Scalar.select (BitVec.ofBool (decide (max ((y (ix2 i k) + z (ix2 i k)) - Ideal.ofBits .f32 0x40000000#32 * m (ix2 i k)) (Ideal.ofBits .f32 0x00000000#32)
      ≤ Ideal.ofBits .f32 0x3E23D70A#32)))
    (max ((y (ix2 i k) + z (ix2 i k)) - Ideal.ofBits .f32 0x40000000#32 * m (ix2 i k)) (Ideal.ofBits .f32 0x00000000#32)) (Ideal.ofBits .f32 0x7F800000#32) = _
  rw [select_ofBool, Ideal.ofBits_zero_f32, bits_top]
  have hq' : y (ix2 i k) = (centre x3 x4 x5 i 0 * centre x3 x4 x5 i 0 + centre x3 x4 x5 i 1 * centre x3 x4 x5 i 1)
      + centre x3 x4 x5 i 2 * centre x3 x4 x5 i 2 := hq
  have hp' : z (ix2 i k) = (points x0 x1 x2 0 k * points x0 x1 x2 0 k + points x0 x1 x2 1 k * points x0 x1 x2 1 k)
      + points x0 x1 x2 2 k * points x0 x1 x2 2 k := hp
  unfold ball
  simp only [decide_eq_true_eq]
  rw [hm, hq', hp']

/-- The perceptron, read at row `16 t + i`, where the row of zeros and ones marks position `s`. -/
theorem perceptron_apply (o : FVec Ideal S1024x512 .f32) (r0 r1 r2 : FVec Ideal S1024x1 .f32) (x6 : FVec Ideal S512x128 .f32)
    (x7 : FVec Ideal S128x128 .f32) (x8 : FVec Ideal S3x128 .f32) (x9 : FVec Ideal S1x128 .f32) (x10 : FVec Ideal S128x128 .f32)
    (x11 : FVec Ideal S1x128 .f32) (x12 : FVec Ideal S128x256 .f32) (x13 : FVec Ideal S1x256 .f32) (n : Fin 1024) (c : Fin 256)
    (s : Fin 512) (ho : ∀ k, o (ix2 n k) = if k = s then 1 else 0) :
    perceptron o r0 r1 r2 x6 x7 x8 x9 x10 x11 x12 x13 (ix2 n c)
      = dense (fun k j => x12 (ix2 k j)) (fun j => x13 (ix2 0 j))
          (dense (fun k j => x10 (ix2 k j)) (fun j => x11 (ix2 0 j))
            (mix (fun k j => x7 (ix2 k j)) (fun a j => x8 (ix2 a j)) (fun j => x9 (ix2 0 j)) (fun k => x6 (ix2 s k))
              (fun a => ![r0, r1, r2] a (ix2 n 0)))) c := by
  unfold perceptron
  have hg : ∀ k : Fin 128, matmul dot_S1024x512_S512x128_S1024x128_1_0_0_1_n_n (some .fp32) o x6 (constant S1024x128 .f32 0x00000000#32) (ix2 n k)
      = x6 (ix2 s k) := by
    intro k
    refine (product _ rfl _ _ _ n k).trans ?_
    simp only [ho, ite_mul, one_mul, zero_mul]
    exact (Finset.sum_ite_eq' Finset.univ s fun l : Fin 512 => x6 (ix2 l k)).trans (if_pos (Finset.mem_univ _))
  refine (layer dot_S1024x128_S128x256_S1024x256_1_0_0_1_n_n rfl _ _ x13 _ _ n c).trans ?_
  refine congrArg (fun z => dense (fun k j => x12 (ix2 k j)) (fun j => x13 (ix2 0 j)) z c) (funext fun k => ?_)
  refine (layer dot_S1024x128_S128x128_S1024x128_1_0_0_1_n_n rfl _ _ x11 _ _ n k).trans ?_
  refine congrArg (fun z => dense (fun k j => x10 (ix2 k j)) (fun j => x11 (ix2 0 j)) z k) (funext fun l => ?_)
  refine (mixed dot_S1024x128_S128x128_S1024x128_1_0_0_1_n_n rfl dot_S1024x3_S3x128_S1024x128_1_0_0_1_n_n rfl _ x7 _ x8 x9 _ _ _ _ n l).trans ?_
  refine congrArg₂ (fun y z => mix (fun k j => x7 (ix2 k j)) (fun a j => x8 (ix2 a j)) (fun j => x9 (ix2 0 j)) y z l) (funext hg) (funext fun a => ?_)
  exact columns ![r0, r1, r2] concatenates_S1024x1_S1024x1_S1024x1_S1024x3_d1 n a

/-- The pooled block, at a centre and a feature. -/
theorem pool_apply (h : FVec Ideal S1024x256 .f32) (v : FVec Ideal S1024x1 .f32) (i : Fin 16) (c : Fin 256) :
    pool h v (ix2 i c) = (Finset.univ : Finset (Fin 64)).fold max ⊥ fun t =>
      if v (ix2 (at_ t i) 0) < ⊤ then h (ix2 (at_ t i) c) else ⊥ := by
  unfold pool
  refine (Ideal.multiReduction_maximumf_single _ _ reduces_S64x16x256_S16x256 _ _ (ix2 i c)).trans ?_
  refine congrArg₂ (fun b f => Finset.fold max b f (Finset.univ : Finset (Fin 64))) bits_bot (funext fun t => ?_)
  have hl : reduces_S64x16x256_S16x256.lift (ix2 i c) t = ix3 t i c := by
    funext b
    match b with
    | ⟨0, _⟩ => rfl
    | ⟨1, _⟩ => rfl
    | ⟨2, _⟩ => rfl
  refine (congrArg _ hl).trans ?_
  refine (shapeCast_apply _ _ (ix3 t i c) (ix2 (at_ t i) c) ?_).trans ?_
  · rw [Shape.rowMajor_val_two, Shape.rowMajor_val_three]
    show (16 * t.val + i.val) * 256 + c.val = (t.val * 16 + i.val) * 256 + c.val
    omega
  have hb : broadcastTo S1024x256 (cmpf .olt v (broadcast S1024x1 (Scalar.ofBits (F := Ideal) .f32 0x7F800000#32))) broadcasts_S1024x1_S1024x256 (ix2 (at_ t i) c)
      = BitVec.ofBool (decide (v (ix2 (at_ t i) 0) < Ideal.ofBits .f32 0x7F800000#32)) :=
    broadcastTo_apply _ _ _ (ix2 (at_ t i) 0) fun a => by
      match a with
      | ⟨0, _⟩ => rfl
      | ⟨1, _⟩ => rfl
  rw [shapeCast_self]
  refine (congrArg (fun z => Scalar.select z (h (ix2 (at_ t i) c)) (Ideal.ofBits .f32 0xFF800000#32)) hb).trans ?_
  rw [select_ofBool, bits_top, bits_bot]
  simp only [decide_eq_true_eq]

/-- A block of the kernel's result holds the pooled features of its sixteen centres. -/
theorem block_apply (x0 x1 x2 : FVec Ideal S1x512 .f32) (x3 x4 x5 : FVec Ideal S16x1 .f32) (x6 : FVec Ideal S512x128 .f32)
    (x7 : FVec Ideal S128x128 .f32) (x8 : FVec Ideal S3x128 .f32) (x9 : FVec Ideal S1x128 .f32) (x10 : FVec Ideal S128x128 .f32)
    (x11 : FVec Ideal S1x128 .f32) (x12 : FVec Ideal S128x256 .f32) (x13 : FVec Ideal S1x256 .f32) (i : Fin 16) (c : Fin 256) :
    block (F := Ideal) x0 x1 x2 x3 x4 x5 x6 x7 x8 x9 x10 x11 x12 x13 (ix2 i c)
      = group (points x0 x1 x2) (fun s k => x6 (ix2 s k)) (fun k j => x7 (ix2 k j)) (fun a j => x8 (ix2 a j)) (fun j => x9 (ix2 0 j))
          (fun k j => x10 (ix2 k j)) (fun j => x11 (ix2 0 j)) (fun k j => x12 (ix2 k j)) (fun j => x13 (ix2 0 j)) (centre x3 x4 x5 i) c := by
  unfold block
  simp only [shapeCast_self]
  refine (pool_apply _ _ i c).trans ?_
  unfold group pooled
  refine congrArg (fun f => Finset.fold max ⊥ f (Finset.univ : Finset (Fin 64))) (funext fun t => ?_)
  have hd := dist_row x0 x1 x2 x3 x4 x5 i
  have ht : t.val < 512 := by omega
  have hv : stack (F := Ideal) (fun t => least (after (dist x0 x1 x2 x3 x4 x5) t)) (ix2 (at_ t i) 0)
      = ball (points x0 x1 x2) (centre x3 x4 x5 i) (near (ball (points x0 x1 x2) (centre x3 x4 x5 i)) t) := by
    rw [stack_apply, least_after _ i ⟨t.val, ht⟩, hd]
    rfl
  rw [hv]
  by_cases hlt : ball (points x0 x1 x2) (centre x3 x4 x5 i) (near (ball (points x0 x1 x2) (centre x3 x4 x5 i)) t) < ⊤
  · rw [if_pos hlt, if_pos hlt]
    have hf : first (after (dist x0 x1 x2 x3 x4 x5) t.val) i = near (ball (points x0 x1 x2) (centre x3 x4 x5 i)) t := by
      have := first_after (dist x0 x1 x2 x3 x4 x5) i ⟨t.val, ht⟩ (by rw [hd]; exact hlt)
      rw [hd] at this
      exact this
    refine (perceptron_apply _ _ _ _ x6 x7 x8 x9 x10 x11 x12 x13 (at_ t i) c _ fun k => by rw [stackWide_apply, one_apply, hf]).trans ?_
    unfold feature
    refine congrArg (fun z => dense _ _ (dense _ _ (mix _ _ _ _ z)) c) (funext fun a => ?_)
    match a with
    | ⟨0, _⟩ =>
      show stack _ (ix2 (at_ t i) 0) - stack _ (ix2 (at_ t i) 0) = _
      rw [stack_apply, stack_apply, pick_apply, hf]; rfl
    | ⟨1, _⟩ =>
      show stack _ (ix2 (at_ t i) 0) - stack _ (ix2 (at_ t i) 0) = _
      rw [stack_apply, stack_apply, pick_apply, hf]; rfl
    | ⟨2, _⟩ =>
      show stack _ (ix2 (at_ t i) 0) - stack _ (ix2 (at_ t i) 0) = _
      rw [stack_apply, stack_apply, pick_apply, hf]; rfl
  · rw [if_neg hlt, if_neg hlt]

end Cert.Group
-- ==== Proof.Tail.lean ====
module

public import proofs.«01_k».proof.Proof.Layers
public import proofs.«01_k».proof.Proof.Gen.KernelIdeal.Skeleton

/- The classifier kernel's stored value, read: it is the plain classifier of the blocks it loads. -/

@[expose] public section

set_option maxRecDepth 16384

noncomputable section

namespace Cert.Group

open Idealize.ShloMosaic Idealize.ShloMosaic.ValueIdx Idealize.SL.Sem Cert.KernelIdeal Cert.KernelIdeal.Gen Cert.Plain

/-- The total of a column. -/
def total (v : FVec Ideal S128x1 .f32) : EReal :=
  extractAt ![0, 0, 0]
    (shapeCast S1x1x1
      (multiReduction .add [1, 2] S1 (shapeCast S1x128x1 v shapeCasts_S128x1_S1x128x1) 0x00000000#32 reduces_S1x128x1_S1 (.inl rfl) rfl)
      shapeCasts_S1_S1x1x1) inpos_S1x1x1_p0_0_0

/-- The sum of a column. -/
theorem total_eq (v : FVec Ideal S128x1 .f32) : total v = ∑ n : Fin 128, v (ix2 n 0) := by
  unfold total extractAt
  refine (Ideal.multiReduction_add_total _ _ reduces_S1x128x1_S1 (by decide) _ _ _).trans ?_
  refine (Equiv.sum_comp (Shape.reshapeEquiv shapeCasts_S128x1_S1x128x1) v).trans ?_
  refine (sum_idx2 (n0 := 128) (n1 := 1) v).trans (Finset.sum_congr rfl fun n _ => ?_)
  exact Fin.sum_univ_one _

/-- A column less its mean. -/
def about (v : FVec Ideal S128x1 .f32) : FVec Ideal S128x1 .f32 :=
  subf v (broadcastTo S128x1 (divf (broadcast S1x1 (total v)) (broadcast S1x1 (Scalar.ofBits (F := Ideal) .f32 0x43000000#32))) broadcasts_S1x1_S128x1)

/-- A coordinate about the mean. -/
theorem about_apply (v : FVec Ideal S128x1 .f32) (n : Fin 128) :
    about v (ix2 n 0) = v (ix2 n 0) - Ideal.div (∑ i : Fin 128, v (ix2 i 0)) (Ideal.ofBits .f32 0x43000000#32) := by
  rw [← total_eq]
  rfl

/-- A layer of one row, read at a cell. -/
theorem oneRow {K N : ℕ} (D : DotDims ⟨2, ![1, K]⟩ ⟨2, ![K, N]⟩ ⟨2, ![1, N]⟩) (hD : D = DotDims.plain 1 K N)
    (l : FVec Ideal ⟨2, ![1, K]⟩ .f32) (r : FVec Ideal ⟨2, ![K, N]⟩ .f32) (b : FVec Ideal ⟨2, ![1, N]⟩ .f32)
    (hs : (⟨2, ![1, N]⟩ : Shape).ShapeCasts ⟨2, ![1, N]⟩) (j : Fin N) :
    maximumf (addf (matmul D none l r (constant ⟨2, ![1, N]⟩ .f32 0x00000000#32)) (shapeCast ⟨2, ![1, N]⟩ b hs))
      (broadcast ⟨2, ![1, N]⟩ (Scalar.ofBits (F := Ideal) .f32 0x00000000#32)) (ix2 0 j)
      = dense (fun k j => r (ix2 k j)) (fun j => b (ix2 0 j)) (fun k => l (ix2 0 k)) j := by
  show max (matmul D none l r (constant ⟨2, ![1, N]⟩ .f32 0x00000000#32) (ix2 0 j) + shapeCast ⟨2, ![1, N]⟩ b hs (ix2 0 j))
    (Ideal.ofBits .f32 0x00000000#32) = _
  rw [product D hD, Ideal.ofBits_zero_f32, shapeCast_self]
  rfl

/-- The greatest of each column of 128. -/
def tops (h : FVec Ideal S128x1024 .f32) : FVec Ideal S1x1024 .f32 :=
  shapeCast S1x1024 (multiReduction .maximumf [0] S1024 h 0xFF800000#32 reduces_S128x1024_S1024 (.inl rfl) rfl) shapeCasts_S1024_S1x1024

/-- The greatest value of each column. -/
theorem tops_apply (h : FVec Ideal S128x1024 .f32) (k : Fin 1024) :
    tops h (ix2 0 k) = (Finset.univ : Finset (Fin 128)).fold max ⊥ fun n => h (ix2 n k) := by
  unfold tops
  refine (shapeCast_a_1a_apply _ _ 0 k).trans ?_
  refine (Ideal.multiReduction_maximumf_single _ _ reduces_S128x1024_S1024 _ _ (ix1 k)).trans ?_
  refine congrArg₂ (fun b f => Finset.fold max b f (Finset.univ : Finset (Fin 128))) bits_bot (funext fun n => congrArg h ?_)
  funext b
  match b with
  | ⟨0, _⟩ => rfl
  | ⟨1, _⟩ => rfl

/-- The coordinates of the centres, from their three columns. -/
def centres (v0 v1 v2 : FVec Ideal S128x1 .f32) (a : Fin 3) (n : Fin 128) : EReal := ![v0, v1, v2] a (ix2 n 0)

/-- The first layer of the centres. -/
def layer₁ (v0 v1 v2 : FVec Ideal S128x1 .f32) (v31 : FVec Ideal S128x256 .f32) (v33 : FVec Ideal S256x256 .f32) (v36 : FVec Ideal S3x256 .f32)
    (v40 : FVec Ideal S1x256 .f32) : FVec Ideal S128x256 .f32 :=
  maximumf
    (addf
      (addf
        (matmul dot_S128x256_S256x256_S128x256_1_0_0_1_n_n none (shapeCast S128x256 v31 shapeCasts_S128x256_S128x256)
          (shapeCast S256x256 v33 shapeCasts_S256x256_S256x256) (constant S128x256 .f32 0x00000000#32))
        (matmul dot_S128x3_S3x256_S128x256_1_0_0_1_n_n none
          (concatenate S128x3 1 [⟨S128x1, about v0⟩, ⟨S128x1, about v1⟩, ⟨S128x1, about v2⟩] concatenates_S128x1_S128x1_S128x1_S128x3_d1)
          (shapeCast S3x256 v36 shapeCasts_S3x256_S3x256) (constant S128x256 .f32 0x00000000#32)))
      (broadcastTo S128x256 (shapeCast S1x256 v40 shapeCasts_S1x256_S1x256) broadcasts_S1x256_S128x256))
    (broadcast S128x256 (Scalar.ofBits .f32 0x00000000#32))

/-- The classifier's first layer, read at a cell, -/
theorem layer₁_apply (v0 v1 v2 : FVec Ideal S128x1 .f32) (v31 : FVec Ideal S128x256 .f32) (v33 : FVec Ideal S256x256 .f32) (v36 : FVec Ideal S3x256 .f32)
    (v40 : FVec Ideal S1x256 .f32) (n : Fin 128) (q : Fin 256) :
    layer₁ v0 v1 v2 v31 v33 v36 v40 (ix2 n q)
      = mix (fun k j => v33 (ix2 k j)) (fun a j => v36 (ix2 a j)) (fun j => v40 (ix2 0 j)) (fun c => v31 (ix2 n c))
          (fun a => centres v0 v1 v2 a n - Ideal.div (∑ i, centres v0 v1 v2 a i) (Ideal.ofBits .f32 0x43000000#32)) q := by
  unfold layer₁
  refine (mixed dot_S128x256_S256x256_S128x256_1_0_0_1_n_n rfl dot_S128x3_S3x256_S128x256_1_0_0_1_n_n rfl _ v33 _ v36 v40 _ _ _ _ n q).trans ?_
  refine congrArg₂ (fun y z => mix (fun k j => v33 (ix2 k j)) (fun a j => v36 (ix2 a j)) (fun j => v40 (ix2 0 j)) y z q)
    (funext fun c => ?_) (funext fun a => ?_)
  · rw [shapeCast_self]
  · refine (columns ![about v0, about v1, about v2] concatenates_S128x1_S128x1_S128x1_S128x3_d1 n a).trans ?_
    match a with
    | ⟨0, _⟩ => exact about_apply v0 n
    | ⟨1, _⟩ => exact about_apply v1 n
    | ⟨2, _⟩ => exact about_apply v2 n

/-- The second layer of the centres. -/
def layer₂ (a : FVec Ideal S128x256 .f32) (w : FVec Ideal S256x512 .f32) (b : FVec Ideal S1x512 .f32) : FVec Ideal S128x512 .f32 :=
  maximumf
    (addf (matmul dot_S128x256_S256x512_S128x512_1_0_0_1_n_n none a w (constant S128x512 .f32 0x00000000#32))
      (broadcastTo S128x512 (shapeCast S1x512 b shapeCasts_S1x512_S1x512) broadcasts_S1x512_S128x512))
    (broadcast S128x512 (Scalar.ofBits .f32 0x00000000#32))

/-- its second, -/
theorem layer₂_apply (a : FVec Ideal S128x256 .f32) (w : FVec Ideal S256x512 .f32) (b : FVec Ideal S1x512 .f32) (n : Fin 128) (j : Fin 512) :
    layer₂ a w b (ix2 n j) = dense (fun k j => w (ix2 k j)) (fun j => b (ix2 0 j)) (fun k => a (ix2 n k)) j :=
  layer dot_S128x256_S256x512_S128x512_1_0_0_1_n_n rfl a w b broadcasts_S1x512_S128x512 shapeCasts_S1x512_S1x512 n j

/-- The third layer of the centres. -/
def layer₃ (a : FVec Ideal S128x512 .f32) (w : FVec Ideal S512x1024 .f32) (b : FVec Ideal S1x1024 .f32) : FVec Ideal S128x1024 .f32 :=
  maximumf
    (addf (matmul dot_S128x512_S512x1024_S128x1024_1_0_0_1_n_n none a w (constant S128x1024 .f32 0x00000000#32))
      (broadcastTo S128x1024 (shapeCast S1x1024 b shapeCasts_S1x1024_S1x1024) broadcasts_S1x1024_S128x1024))
    (broadcast S128x1024 (Scalar.ofBits .f32 0x00000000#32))

/-- and its third. -/
theorem layer₃_apply (a : FVec Ideal S128x512 .f32) (w : FVec Ideal S512x1024 .f32) (b : FVec Ideal S1x1024 .f32) (n : Fin 128) (j : Fin 1024) :
    layer₃ a w b (ix2 n j) = dense (fun k j => w (ix2 k j)) (fun j => b (ix2 0 j)) (fun k => a (ix2 n k)) j :=
  layer dot_S128x512_S512x1024_S128x1024_1_0_0_1_n_n rfl a w b broadcasts_S1x1024_S128x1024 shapeCasts_S1x1024_S1x1024 n j

/-- The first layer of the head. -/
def head₁ (g : FVec Ideal S1x1024 .f32) (w : FVec Ideal S1024x512 .f32) (b : FVec Ideal S1x512 .f32) : FVec Ideal S1x512 .f32 :=
  maximumf
    (addf (matmul dot_S1x1024_S1024x512_S1x512_1_0_0_1_n_n none g w (constant S1x512 .f32 0x00000000#32)) (shapeCast S1x512 b shapeCasts_S1x512_S1x512))
    (broadcast S1x512 (Scalar.ofBits .f32 0x00000000#32))

/-- The head's first layer, read at a cell, -/
theorem head₁_apply (g : FVec Ideal S1x1024 .f32) (w : FVec Ideal S1024x512 .f32) (b : FVec Ideal S1x512 .f32) (j : Fin 512) :
    head₁ g w b (ix2 0 j) = dense (fun k j => w (ix2 k j)) (fun j => b (ix2 0 j)) (fun k => g (ix2 0 k)) j :=
  oneRow dot_S1x1024_S1024x512_S1x512_1_0_0_1_n_n rfl g w b shapeCasts_S1x512_S1x512 j

/-- The second layer of the head. -/
def head₂ (g : FVec Ideal S1x512 .f32) (w : FVec Ideal S512x256 .f32) (b : FVec Ideal S1x256 .f32) : FVec Ideal S1x256 .f32 :=
  maximumf
    (addf (matmul dot_S1x512_S512x256_S1x256_1_0_0_1_n_n none g w (constant S1x256 .f32 0x00000000#32)) (shapeCast S1x256 b shapeCasts_S1x256_S1x256))
    (broadcast S1x256 (Scalar.ofBits .f32 0x00000000#32))

/-- its second, -/
theorem head₂_apply (g : FVec Ideal S1x512 .f32) (w : FVec Ideal S512x256 .f32) (b : FVec Ideal S1x256 .f32) (j : Fin 256) :
    head₂ g w b (ix2 0 j) = dense (fun k j => w (ix2 k j)) (fun j => b (ix2 0 j)) (fun k => g (ix2 0 k)) j :=
  oneRow dot_S1x512_S512x256_S1x256_1_0_0_1_n_n rfl g w b shapeCasts_S1x256_S1x256 j

/-- The last layer of the head. -/
def head₃ (g : FVec Ideal S1x256 .f32) (w : FVec Ideal S256x40 .f32) (b : FVec Ideal S1x40 .f32) : FVec Ideal S1x40 .f32 :=
  addf (matmul dot_S1x256_S256x40_S1x40_1_0_0_1_n_n none g w (constant S1x40 .f32 0x00000000#32)) (shapeCast S1x40 b shapeCasts_S1x40_S1x40)

/-- and its last, which takes no positive part. -/
theorem head₃_apply (g : FVec Ideal S1x256 .f32) (w : FVec Ideal S256x40 .f32) (b : FVec Ideal S1x40 .f32) (j : Fin 40) :
    head₃ g w b (ix2 0 j) = (∑ k, g (ix2 0 k) * w (ix2 k j)) + b (ix2 0 j) := by
  unfold head₃
  rw [shapeCast_self]
  exact congrArg (· + b (ix2 0 j)) (product dot_S1x256_S256x40_S1x40_1_0_0_1_n_n rfl none g w 0 j)

/-- The classifier's stored value, layer by layer. -/
theorem tail_layers (v0 v1 v2 : FVec Ideal S128x1 .f32) (v31 : FVec Ideal S128x256 .f32) (v33 : FVec Ideal S256x256 .f32) (v36 : FVec Ideal S3x256 .f32)
    (v40 : FVec Ideal S1x256 .f32) (v46 : FVec Ideal S256x512 .f32) (v48 : FVec Ideal S1x512 .f32) (v54 : FVec Ideal S512x1024 .f32) (v56 : FVec Ideal S1x1024 .f32)
    (v64 : FVec Ideal S1024x512 .f32) (v66 : FVec Ideal S1x512 .f32) (v71 : FVec Ideal S512x256 .f32) (v73 : FVec Ideal S1x256 .f32) (v78 : FVec Ideal S256x40 .f32)
    (v80 : FVec Ideal S1x40 .f32) :
    k1_pay1 (F := Ideal) (k1_pay3 (k1_pay2 v0 v1 v2 v31 v33 v36) v40 v46 v48 v54 v56 v64 v66 v71) v73 v78 v80
      = head₃ (head₂ (head₁ (tops (layer₃ (layer₂ (layer₁ v0 v1 v2 v31 v33 v36 v40) v46 v48) v54 v56)) v64 v66) v71 v73) v78 v80 := rfl

/-- What the classifier stores, at a class. -/
theorem tail_apply (v0 v1 v2 : FVec Ideal S128x1 .f32) (v31 : FVec Ideal S128x256 .f32) (v33 : FVec Ideal S256x256 .f32) (v36 : FVec Ideal S3x256 .f32)
    (v40 : FVec Ideal S1x256 .f32) (v46 : FVec Ideal S256x512 .f32) (v48 : FVec Ideal S1x512 .f32) (v54 : FVec Ideal S512x1024 .f32) (v56 : FVec Ideal S1x1024 .f32)
    (v64 : FVec Ideal S1024x512 .f32) (v66 : FVec Ideal S1x512 .f32) (v71 : FVec Ideal S512x256 .f32) (v73 : FVec Ideal S1x256 .f32) (v78 : FVec Ideal S256x40 .f32)
    (v80 : FVec Ideal S1x40 .f32) (j : Fin 40) :
    k1_pay1 (F := Ideal) (k1_pay3 (k1_pay2 v0 v1 v2 v31 v33 v36) v40 v46 v48 v54 v56 v64 v66 v71) v73 v78 v80 (ix2 0 j)
      = classify (fun n c => v31 (ix2 n c)) (centres v0 v1 v2) (fun k j => v33 (ix2 k j)) (fun a j => v36 (ix2 a j)) (fun j => v40 (ix2 0 j))
          (fun k j => v46 (ix2 k j)) (fun j => v48 (ix2 0 j)) (fun k j => v54 (ix2 k j)) (fun j => v56 (ix2 0 j))
          (fun k j => v64 (ix2 k j)) (fun j => v66 (ix2 0 j)) (fun k j => v71 (ix2 k j)) (fun j => v73 (ix2 0 j))
          (fun k j => v78 (ix2 k j)) (fun j => v80 (ix2 0 j)) j := by
  rw [tail_layers, head₃_apply]
  simp only [head₂_apply, head₁_apply, tops_apply, layer₃_apply, layer₂_apply, layer₁_apply]
  rfl

end Cert.Group
-- ==== Proof.Net.lean ====
module

public import proofs.«01_k».proof.Proof.Plain
public import proofs.«01_k».proof.Proof.Gen.KernelIdeal
public import Idealize.ShloMosaic.Lib.ValueIdx

/- The network's two parts as functions of the program's twenty-five arguments. -/

@[expose] public section

noncomputable section

namespace Cert.Net

open Idealize.ShloMosaic Idealize.ShloMosaic.ValueIdx Idealize.SL.Sem Cert.KernelIdeal Cert.Plain

/-- The pooled features of centre `n`: the points' coordinates are `x0 x1 x2`, the centres' `x3 x4 x5`, the points' features `x6`. -/
def grouped (x0 x1 x2 : FVec Ideal S512x1 .f32) (x3 x4 x5 : FVec Ideal S128x1 .f32) (x6 : FVec Ideal S512x128 .f32) (x7 : FVec Ideal S131x128 .f32)
    (x8 : FVec Ideal S128 .f32) (x9 : FVec Ideal S128x128 .f32) (x10 : FVec Ideal S128 .f32) (x11 : FVec Ideal S128x256 .f32) (x12 : FVec Ideal S256 .f32)
    (n : Fin 128) (c : Fin 256) : EReal :=
  group (fun a k => ![x0, x1, x2] a (ix2 k 0)) (fun s k => x6 (ix2 s k)) (fun k j => x7 (ix2 (Fin.castAdd 3 k : Fin 131) j))
    (fun a j => x7 (ix2 (Fin.natAdd 128 a : Fin 131) j)) (fun j => x8 (ix1 j)) (fun k j => x9 (ix2 k j)) (fun j => x10 (ix1 j))
    (fun k j => x11 (ix2 k j)) (fun j => x12 (ix1 j)) (fun a => ![x3, x4, x5] a (ix2 n 0)) c

/-- The classifier of the pooled features `g` of the centres `x3 x4 x5`. -/
def scored (g : Fin 128 → Fin 256 → EReal) (x3 x4 x5 : FVec Ideal S128x1 .f32) (x13 : FVec Ideal S259x256 .f32) (x14 : FVec Ideal S256 .f32)
    (x15 : FVec Ideal S256x512 .f32) (x16 : FVec Ideal S512 .f32) (x17 : FVec Ideal S512x1024 .f32) (x18 : FVec Ideal S1024 .f32)
    (x19 : FVec Ideal S1024x512 .f32) (x20 : FVec Ideal S512 .f32) (x21 : FVec Ideal S512x256 .f32) (x22 : FVec Ideal S256 .f32)
    (x23 : FVec Ideal S256x40 .f32) (x24 : FVec Ideal S40 .f32) (j : Fin 40) : EReal :=
  classify g (fun a n => ![x3, x4, x5] a (ix2 n 0)) (fun k j => x13 (ix2 (Fin.castAdd 3 k : Fin 259) j)) (fun a j => x13 (ix2 (Fin.natAdd 256 a : Fin 259) j))
    (fun j => x14 (ix1 j)) (fun k j => x15 (ix2 k j)) (fun j => x16 (ix1 j)) (fun k j => x17 (ix2 k j)) (fun j => x18 (ix1 j))
    (fun k j => x19 (ix2 k j)) (fun j => x20 (ix1 j)) (fun k j => x21 (ix2 k j)) (fun j => x22 (ix1 j)) (fun k j => x23 (ix2 k j)) (fun j => x24 (ix1 j)) j

end Cert.Net
-- ==== Proof.Whole.lean ====
module

public import proofs.«01_k».proof.Proof.Link
public import proofs.«01_k».proof.Proof.Tail
public import proofs.«01_k».proof.Proof.Net
public import Idealize.ShloMosaic.Lib.Pipeline.Value
public import Idealize.ShloMosaic.Lib.Pipeline.ValueKit.Geometry

/- The arrays of the program's two regions: what each region finds, and what each leaves. -/

@[expose] public section

set_option maxRecDepth 16384

noncomputable section

namespace Cert.Whole

open Idealize.ShloMosaic Idealize.ShloMosaic.TcCoe Idealize.ShloMosaic.Tactic Idealize.ShloMosaic.ValueIdx Idealize.SL.Sem
open Cert.KernelIdeal Cert.KernelIdeal.Gen Cert.Group Cert.Plain

variable (m : (ℓ : Loc nD τ sig) → Buf (Elt Ideal) ℓ) (ρ : Dev nD → PrngReg) (c : Dev nD)

/-! ## What the first region finds -/

/-- The first region finds the points' first coordinates as one row, -/
theorem found_x : (V1 m ρ c main_v0 : FVec Ideal S1x512 .f32) = shapeCast S1x512 (m ((c : Thread nD τ).loc main_arg0)) shapeCasts_S512x1_S1x512 := by
  show StableHlo.after hostOps0 _ _ = _
  after_results_simp
  rfl
/-- the second, -/
theorem found_y : (V1 m ρ c main_v1 : FVec Ideal S1x512 .f32) = shapeCast S1x512 (m ((c : Thread nD τ).loc main_arg1)) shapeCasts_S512x1_S1x512 := by
  show StableHlo.after hostOps0 _ _ = _
  after_results_simp
  rfl
/-- and the third; -/
theorem found_z : (V1 m ρ c main_v2 : FVec Ideal S1x512 .f32) = shapeCast S1x512 (m ((c : Thread nD τ).loc main_arg2)) shapeCasts_S512x1_S1x512 := by
  show StableHlo.after hostOps0 _ _ = _
  after_results_simp
  rfl
/-- the first weights' rows for the features, -/
theorem found_wa : (V1 m ρ c main_v3 : FVec Ideal S128x128 .f32)
    = extractStridedSlice S128x128 ![0, 0] (m ((c : Thread nD τ).loc main_arg7)) slices_S131x128_S128x128_0_0 := by
  show StableHlo.after hostOps0 _ _ = _
  after_results_simp
/-- and for the coordinates, -/
theorem found_wb : (V1 m ρ c main_v4 : FVec Ideal S3x128 .f32)
    = extractStridedSlice S3x128 ![128, 0] (m ((c : Thread nD τ).loc main_arg7)) slices_S131x128_S3x128_128_0 := by
  show StableHlo.after hostOps0 _ _ = _
  after_results_simp
/-- and the offsets as rows. -/
theorem found_b₁ : (V1 m ρ c main_v5 : FVec Ideal S1x128 .f32) = shapeCast S1x128 (m ((c : Thread nD τ).loc main_arg8)) shapeCasts_S128_S1x128 := by
  show StableHlo.after hostOps0 _ _ = _
  after_results_simp
  rfl
/-- The second offset, -/
theorem found_b₂ : (V1 m ρ c main_v6 : FVec Ideal S1x128 .f32) = shapeCast S1x128 (m ((c : Thread nD τ).loc main_arg10)) shapeCasts_S128_S1x128 := by
  show StableHlo.after hostOps0 _ _ = _
  after_results_simp
  rfl
/-- the third. -/
theorem found_b₃ : (V1 m ρ c main_v7 : FVec Ideal S1x256 .f32) = shapeCast S1x256 (m ((c : Thread nD τ).loc main_arg12)) shapeCasts_S256_S1x256 := by
  show StableHlo.after hostOps0 _ _ = _
  after_results_simp
  rfl

/-! ## The first region's blocks -/

variable (V : (c : Dev nD) → (b : Ref sig .tc) → Buf (Elt Ideal) ((c : Thread nD τ).loc b)) (t : Fin cfg0.N)

/-- A block at number zero starts at its array's first cell. -/
theorem from_zero {n : ℕ} (h : n = 0) (b x : ℕ) : n * b + 1 * x = x := by subst h; omega

/-- Operand 0 of the first call comes whole in its block. -/
theorem part₀ : iblk0 V c 0 t = V c main_v0 := by
  obtain ⟨e₀, e₁⟩ := (by decide +kernel : ∀ t : Fin grid0.N, win0_0.index t (0 : Fin 2) = 0 ∧ win0_0.index t (1 : Fin 2) = 0) t
  exact funext fun j => congrArg (V c main_v0) (funext fun b => Fin.ext (match b with | ⟨0, _⟩ => from_zero e₀ _ _ | ⟨1, _⟩ => from_zero e₁ _ _))
/-- Operand 1 of the first call comes whole in its block. -/
theorem part₁ : iblk0 V c 1 t = V c main_v1 := by
  obtain ⟨e₀, e₁⟩ := (by decide +kernel : ∀ t : Fin grid0.N, win0_1.index t (0 : Fin 2) = 0 ∧ win0_1.index t (1 : Fin 2) = 0) t
  exact funext fun j => congrArg (V c main_v1) (funext fun b => Fin.ext (match b with | ⟨0, _⟩ => from_zero e₀ _ _ | ⟨1, _⟩ => from_zero e₁ _ _))
/-- Operand 2 of the first call comes whole in its block. -/
theorem part₂ : iblk0 V c 2 t = V c main_v2 := by
  obtain ⟨e₀, e₁⟩ := (by decide +kernel : ∀ t : Fin grid0.N, win0_2.index t (0 : Fin 2) = 0 ∧ win0_2.index t (1 : Fin 2) = 0) t
  exact funext fun j => congrArg (V c main_v2) (funext fun b => Fin.ext (match b with | ⟨0, _⟩ => from_zero e₀ _ _ | ⟨1, _⟩ => from_zero e₁ _ _))
/-- Operand 6 of the first call comes whole in its block. -/
theorem part₆ : iblk0 V c 6 t = V c main_arg6 := by
  obtain ⟨e₀, e₁⟩ := (by decide +kernel : ∀ t : Fin grid0.N, win0_6.index t (0 : Fin 2) = 0 ∧ win0_6.index t (1 : Fin 2) = 0) t
  exact funext fun j => congrArg (V c main_arg6) (funext fun b => Fin.ext (match b with | ⟨0, _⟩ => from_zero e₀ _ _ | ⟨1, _⟩ => from_zero e₁ _ _))
/-- Operand 7 of the first call comes whole in its block. -/
theorem part₇ : iblk0 V c 7 t = V c main_v3 := by
  obtain ⟨e₀, e₁⟩ := (by decide +kernel : ∀ t : Fin grid0.N, win0_7.index t (0 : Fin 2) = 0 ∧ win0_7.index t (1 : Fin 2) = 0) t
  exact funext fun j => congrArg (V c main_v3) (funext fun b => Fin.ext (match b with | ⟨0, _⟩ => from_zero e₀ _ _ | ⟨1, _⟩ => from_zero e₁ _ _))
/-- Operand 8 of the first call comes whole in its block. -/
theorem part₈ : iblk0 V c 8 t = V c main_v4 := by
  obtain ⟨e₀, e₁⟩ := (by decide +kernel : ∀ t : Fin grid0.N, win0_8.index t (0 : Fin 2) = 0 ∧ win0_8.index t (1 : Fin 2) = 0) t
  exact funext fun j => congrArg (V c main_v4) (funext fun b => Fin.ext (match b with | ⟨0, _⟩ => from_zero e₀ _ _ | ⟨1, _⟩ => from_zero e₁ _ _))
/-- Operand 9 of the first call comes whole in its block. -/
theorem part₉ : iblk0 V c 9 t = V c main_v5 := by
  obtain ⟨e₀, e₁⟩ := (by decide +kernel : ∀ t : Fin grid0.N, win0_9.index t (0 : Fin 2) = 0 ∧ win0_9.index t (1 : Fin 2) = 0) t
  exact funext fun j => congrArg (V c main_v5) (funext fun b => Fin.ext (match b with | ⟨0, _⟩ => from_zero e₀ _ _ | ⟨1, _⟩ => from_zero e₁ _ _))
/-- Operand 10 of the first call comes whole in its block. -/
theorem part₁₀ : iblk0 V c 10 t = V c main_arg9 := by
  obtain ⟨e₀, e₁⟩ := (by decide +kernel : ∀ t : Fin grid0.N, win0_10.index t (0 : Fin 2) = 0 ∧ win0_10.index t (1 : Fin 2) = 0) t
  exact funext fun j => congrArg (V c main_arg9) (funext fun b => Fin.ext (match b with | ⟨0, _⟩ => from_zero e₀ _ _ | ⟨1, _⟩ => from_zero e₁ _ _))
/-- Operand 11 of the first call comes whole in its block. -/
theorem part₁₁ : iblk0 V c 11 t = V c main_v6 := by
  obtain ⟨e₀, e₁⟩ := (by decide +kernel : ∀ t : Fin grid0.N, win0_11.index t (0 : Fin 2) = 0 ∧ win0_11.index t (1 : Fin 2) = 0) t
  exact funext fun j => congrArg (V c main_v6) (funext fun b => Fin.ext (match b with | ⟨0, _⟩ => from_zero e₀ _ _ | ⟨1, _⟩ => from_zero e₁ _ _))
/-- Operand 12 of the first call comes whole in its block. -/
theorem part₁₂ : iblk0 V c 12 t = V c main_arg11 := by
  obtain ⟨e₀, e₁⟩ := (by decide +kernel : ∀ t : Fin grid0.N, win0_12.index t (0 : Fin 2) = 0 ∧ win0_12.index t (1 : Fin 2) = 0) t
  exact funext fun j => congrArg (V c main_arg11) (funext fun b => Fin.ext (match b with | ⟨0, _⟩ => from_zero e₀ _ _ | ⟨1, _⟩ => from_zero e₁ _ _))
/-- Operand 13 of the first call comes whole in its block. -/
theorem part₁₃ : iblk0 V c 13 t = V c main_v7 := by
  obtain ⟨e₀, e₁⟩ := (by decide +kernel : ∀ t : Fin grid0.N, win0_13.index t (0 : Fin 2) = 0 ∧ win0_13.index t (1 : Fin 2) = 0) t
  exact funext fun j => congrArg (V c main_v7) (funext fun b => Fin.ext (match b with | ⟨0, _⟩ => from_zero e₀ _ _ | ⟨1, _⟩ => from_zero e₁ _ _))

/-- Centre `i` of a grid point, among all. -/
def among (i : Fin 16) : Fin 128 := ⟨t.val * 16 + i.val, by have : t.val < 8 := t.isLt.trans_eq N_0; omega⟩

/-- A centre's first coordinate in a block is its coordinate in the array; -/
theorem part₃ (i : Fin 16) : iblk0 V c 3 t (ix2 i 0) = V c main_arg3 (ix2 (among t i) 0) := by
  obtain ⟨e₀, e₁⟩ := (by decide +kernel : ∀ t : Fin grid0.N, win0_3.index t (0 : Fin 2) = t.val ∧ win0_3.index t (1 : Fin 2) = 0) t
  show V c main_arg3 (((cfg0.win 3).blk t).view.emb (ix2 i 0)) = _
  refine congrArg (V c main_arg3) (funext fun b => Fin.ext ?_)
  match b with
  | ⟨0, _⟩ => show win0_3.index t (0 : Fin 2) * 16 + 1 * i.val = t.val * 16 + i.val; omega
  | ⟨1, _⟩ => show win0_3.index t (1 : Fin 2) * 1 + 1 * 0 = 0; omega
/-- the second, -/
theorem part₄ (i : Fin 16) : iblk0 V c 4 t (ix2 i 0) = V c main_arg4 (ix2 (among t i) 0) := by
  obtain ⟨e₀, e₁⟩ := (by decide +kernel : ∀ t : Fin grid0.N, win0_4.index t (0 : Fin 2) = t.val ∧ win0_4.index t (1 : Fin 2) = 0) t
  show V c main_arg4 (((cfg0.win 4).blk t).view.emb (ix2 i 0)) = _
  refine congrArg (V c main_arg4) (funext fun b => Fin.ext ?_)
  match b with
  | ⟨0, _⟩ => show win0_4.index t (0 : Fin 2) * 16 + 1 * i.val = t.val * 16 + i.val; omega
  | ⟨1, _⟩ => show win0_4.index t (1 : Fin 2) * 1 + 1 * 0 = 0; omega
/-- and the third. -/
theorem part₅ (i : Fin 16) : iblk0 V c 5 t (ix2 i 0) = V c main_arg5 (ix2 (among t i) 0) := by
  obtain ⟨e₀, e₁⟩ := (by decide +kernel : ∀ t : Fin grid0.N, win0_5.index t (0 : Fin 2) = t.val ∧ win0_5.index t (1 : Fin 2) = 0) t
  show V c main_arg5 (((cfg0.win 5).blk t).view.emb (ix2 i 0)) = _
  refine congrArg (V c main_arg5) (funext fun b => Fin.ext ?_)
  match b with
  | ⟨0, _⟩ => show win0_5.index t (0 : Fin 2) * 16 + 1 * i.val = t.val * 16 + i.val; omega
  | ⟨1, _⟩ => show win0_5.index t (1 : Fin 2) * 1 + 1 * 0 = 0; omega

/-- Where a block of the result lies in the array. -/
theorem place₁₄ (i : Fin 16) (k : Fin 256) : ((cfg0.win 14).blk t).view.emb (ix2 i k) = (ix2 (among t i) k : S128x256.Idx) := by
  obtain ⟨e₀, e₁⟩ := (by decide +kernel : ∀ t : Fin grid0.N, win0_14.index t (0 : Fin 2) = t.val ∧ win0_14.index t (1 : Fin 2) = 0) t
  funext b; apply Fin.ext
  match b with
  | ⟨0, _⟩ => show win0_14.index t (0 : Fin 2) * 16 + 1 * i.val = t.val * 16 + i.val; omega
  | ⟨1, _⟩ => show win0_14.index t (1 : Fin 2) * 256 + 1 * k.val = k.val; omega

/-! ## What the first region leaves -/

/-- The points' coordinates as the region finds them. -/
theorem found_points : points (V1 m ρ c main_v0) (V1 m ρ c main_v1) (V1 m ρ c main_v2)
    = fun a k => ![m ((c : Thread nD τ).loc main_arg0), m ((c : Thread nD τ).loc main_arg1), m ((c : Thread nD τ).loc main_arg2)] a (ix2 k 0) := by
  have turned (x : FVec Ideal S512x1 .f32) (k : Fin 512) : shapeCast S1x512 x shapeCasts_S512x1_S1x512 (ix2 0 k) = x (ix2 k 0) :=
    shapeCast_apply _ _ (ix2 0 k) (ix2 k 0) (by
      rw [Shape.rowMajor_val_two, Shape.rowMajor_val_two]
      show k.val * 1 + 0 = 0 * 512 + k.val
      omega)
  rw [found_x, found_y, found_z]
  funext a k
  match a with
  | ⟨0, _⟩ => exact turned _ k
  | ⟨1, _⟩ => exact turned _ k
  | ⟨2, _⟩ => exact turned _ k

/-- The pooled features of the launch's arguments. -/
def features : Fin 128 → Fin 256 → EReal :=
  Net.grouped (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12))

/-- A grid point's block holds its centres' pooled features. -/
theorem left_block (i : Fin 16) (k : Fin 256) : outsAt0 (V1 m ρ) c t (ix2 i k) = features m c (among t i) k := by
  unfold outsAt0
  rw [out_eq, part₀, part₁, part₂, part₆, part₇, part₈, part₉, part₁₀, part₁₁, part₁₂, part₁₃]
  refine (block_apply _ _ _ _ _ _ _ _ _ _ _ _ _ _ i k).trans ?_
  have hc : centre (iblk0 (V1 m ρ) c 3 t) (iblk0 (V1 m ρ) c 4 t) (iblk0 (V1 m ρ) c 5 t) i
      = fun a => ![m ((c : Thread nD τ).loc main_arg3), m ((c : Thread nD τ).loc main_arg4), m ((c : Thread nD τ).loc main_arg5)] a (ix2 (among t i) 0) := by
    funext a
    match a with
    | ⟨0, _⟩ => exact (part₃ c (V1 m ρ) t i).trans (congrFun (W1_args m ρ c main_arg3 (by decide)) _)
    | ⟨1, _⟩ => exact (part₄ c (V1 m ρ) t i).trans (congrFun (W1_args m ρ c main_arg4 (by decide)) _)
    | ⟨2, _⟩ => exact (part₅ c (V1 m ρ) t i).trans (congrFun (W1_args m ρ c main_arg5 (by decide)) _)
  have hwa : (fun (k : Fin 128) (j : Fin 128) => (V1 m ρ c main_v3 : FVec Ideal S128x128 .f32) (ix2 k j))
      = fun k j => m ((c : Thread nD τ).loc main_arg7) (ix2 (Fin.castAdd 3 k : Fin 131) j) := by
    rw [found_wa]; funext k j
    exact extractStridedSlice_apply _ _ _ _ _ (fun a => match a with | ⟨0, _⟩ => (Nat.zero_add _).symm | ⟨1, _⟩ => (Nat.zero_add _).symm)
  have hwb : (fun (a : Fin 3) (j : Fin 128) => (V1 m ρ c main_v4 : FVec Ideal S3x128 .f32) (ix2 a j))
      = fun a j => m ((c : Thread nD τ).loc main_arg7) (ix2 (Fin.natAdd 128 a : Fin 131) j) := by
    rw [found_wb]; funext k j
    exact extractStridedSlice_apply _ _ _ _ _ (fun a => match a with | ⟨0, _⟩ => rfl | ⟨1, _⟩ => (Nat.zero_add _).symm)
  have hb₁ : (fun j : Fin 128 => (V1 m ρ c main_v5 : FVec Ideal S1x128 .f32) (ix2 0 j)) = fun j => m ((c : Thread nD τ).loc main_arg8) (ix1 j) := by
    rw [found_b₁]; exact funext fun j => shapeCast_a_1a_apply _ _ 0 j
  have hb₂ : (fun j : Fin 128 => (V1 m ρ c main_v6 : FVec Ideal S1x128 .f32) (ix2 0 j)) = fun j => m ((c : Thread nD τ).loc main_arg10) (ix1 j) := by
    rw [found_b₂]; exact funext fun j => shapeCast_a_1a_apply _ _ 0 j
  have hb₃ : (fun j : Fin 256 => (V1 m ρ c main_v7 : FVec Ideal S1x256 .f32) (ix2 0 j)) = fun j => m ((c : Thread nD τ).loc main_arg12) (ix1 j) := by
    rw [found_b₃]; exact funext fun j => shapeCast_a_1a_apply _ _ 0 j
  have h6 : V1 m ρ c main_arg6 = m ((c : Thread nD τ).loc main_arg6) := W1_args m ρ c main_arg6 (by decide)
  have h9 : V1 m ρ c main_arg9 = m ((c : Thread nD τ).loc main_arg9) := W1_args m ρ c main_arg9 (by decide)
  have h11 : V1 m ρ c main_arg11 = m ((c : Thread nD τ).loc main_arg11) := W1_args m ρ c main_arg11 (by decide)
  rw [found_points, hc, hwa, hwb, hb₁, hb₂, hb₃, h6, h9, h11]
  rfl

/-- So the first region leaves every centre's pooled features. -/
theorem left_array : (dat0 (V1 m ρ) c).arrAt 14 cfg0.N = fun i : S128x256.Idx => features m c (i 0) (i 1) :=
  (dat0 (V1 m ρ) c).arrAt_eq_of_covers 14 (fun i : S128x256.Idx => features m c (i 0) (i 1)) (by decide +kernel) fun t _ y => by
    rw [after0_14]
    obtain ⟨i, k, rfl⟩ : ∃ (i : Fin 16) (k : Fin 256), y = ix2 i k :=
      ⟨y 0, y 1, funext fun b => match b with | ⟨0, _⟩ => rfl | ⟨1, _⟩ => rfl⟩
    rw [place₁₄]
    exact left_block m ρ c t i k

end Cert.Whole
-- ==== Proof.Result.lean ====
module

public import proofs.«01_k».proof.Proof.Whole

/- The second region, and the program's run with its result: the network of the launch's arguments. -/

@[expose] public section

set_option maxRecDepth 16384

noncomputable section

namespace Cert.Whole

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Group Cert.Plain

variable (m : (ℓ : Loc nD τ sig) → Buf (Elt Ideal) ℓ) (ρ : Dev nD → PrngReg) (c : Dev nD)

/-! ## What the second region finds -/

/-- The second region finds the first weights' rows for the features, -/
theorem later_wa : (V3 m ρ c main_v9 : FVec Ideal S256x256 .f32)
    = extractStridedSlice S256x256 ![0, 0] (m ((c : Thread nD τ).loc main_arg13)) slices_S259x256_S256x256_0_0 := by
  show StableHlo.after hostOps1 _ _ = _
  after_results_simp
  rw [W2_args m ρ c main_arg13 (by decide)]
/-- and for the coordinates, -/
theorem later_wb : (V3 m ρ c main_v10 : FVec Ideal S3x256 .f32)
    = extractStridedSlice S3x256 ![256, 0] (m ((c : Thread nD τ).loc main_arg13)) slices_S259x256_S3x256_256_0 := by
  show StableHlo.after hostOps1 _ _ = _
  after_results_simp
  rw [W2_args m ρ c main_arg13 (by decide)]
/-- The offsets of the classifier's first layer, as a row; -/
theorem later_b₁ : (V3 m ρ c main_v11 : FVec Ideal S1x256 .f32) = shapeCast S1x256 (m ((c : Thread nD τ).loc main_arg14)) shapeCasts_S256_S1x256 := by
  show StableHlo.after hostOps1 _ _ = _
  after_results_simp
  rw [W2_args m ρ c main_arg14 (by decide)]
  rfl
/-- of the next; -/
theorem later_b₂ : (V3 m ρ c main_v12 : FVec Ideal S1x512 .f32) = shapeCast S1x512 (m ((c : Thread nD τ).loc main_arg16)) shapeCasts_S512_S1x512 := by
  show StableHlo.after hostOps1 _ _ = _
  after_results_simp
  rw [W2_args m ρ c main_arg16 (by decide)]
  rfl
/-- of the next; -/
theorem later_b₃ : (V3 m ρ c main_v13 : FVec Ideal S1x1024 .f32) = shapeCast S1x1024 (m ((c : Thread nD τ).loc main_arg18)) shapeCasts_S1024_S1x1024 := by
  show StableHlo.after hostOps1 _ _ = _
  after_results_simp
  rw [W2_args m ρ c main_arg18 (by decide)]
  rfl
/-- of the next; -/
theorem later_b₄ : (V3 m ρ c main_v14 : FVec Ideal S1x512 .f32) = shapeCast S1x512 (m ((c : Thread nD τ).loc main_arg20)) shapeCasts_S512_S1x512 := by
  show StableHlo.after hostOps1 _ _ = _
  after_results_simp
  rw [W2_args m ρ c main_arg20 (by decide)]
  rfl
/-- of the next; -/
theorem later_b₅ : (V3 m ρ c main_v15 : FVec Ideal S1x256 .f32) = shapeCast S1x256 (m ((c : Thread nD τ).loc main_arg22)) shapeCasts_S256_S1x256 := by
  show StableHlo.after hostOps1 _ _ = _
  after_results_simp
  rw [W2_args m ρ c main_arg22 (by decide)]
  rfl
/-- of the last layer. -/
theorem later_b₆ : (V3 m ρ c main_v16 : FVec Ideal S1x40 .f32) = shapeCast S1x40 (m ((c : Thread nD τ).loc main_arg24)) shapeCasts_S40_S1x40 := by
  show StableHlo.after hostOps1 _ _ = _
  after_results_simp
  rw [W2_args m ρ c main_arg24 (by decide)]
  rfl
/-- and the pooled features that the first region left. -/
theorem later_features : (V3 m ρ c main_v8 : FVec Ideal S128x256 .f32) = fun i => features m c (i 0) (i 1) :=
  (W3_of m ρ c main_v8 (by decide)).trans ((W2_arr m ρ c 14).trans (left_array m ρ c))

/-! ## The second region's blocks: each is its whole array -/

variable (V : (c : Dev nD) → (b : Ref sig .tc) → Buf (Elt Ideal) ((c : Thread nD τ).loc b)) (t : Fin cfg1.N)

/-- Operand 0 of the second call comes whole in its block. -/
theorem all₀ : iblk1 V c 0 t = V c main_v8 := by
  obtain ⟨e₀, e₁⟩ := (by decide +kernel : ∀ t : Fin grid1.N, win1_0.index t (0 : Fin 2) = 0 ∧ win1_0.index t (1 : Fin 2) = 0) t
  exact funext fun j => congrArg (V c main_v8) (funext fun b => Fin.ext (match b with | ⟨0, _⟩ => from_zero e₀ _ _ | ⟨1, _⟩ => from_zero e₁ _ _))
/-- Operand 1 of the second call comes whole in its block. -/
theorem all₁ : iblk1 V c 1 t = V c main_arg3 := by
  obtain ⟨e₀, e₁⟩ := (by decide +kernel : ∀ t : Fin grid1.N, win1_1.index t (0 : Fin 2) = 0 ∧ win1_1.index t (1 : Fin 2) = 0) t
  exact funext fun j => congrArg (V c main_arg3) (funext fun b => Fin.ext (match b with | ⟨0, _⟩ => from_zero e₀ _ _ | ⟨1, _⟩ => from_zero e₁ _ _))
/-- Operand 2 of the second call comes whole in its block. -/
theorem all₂ : iblk1 V c 2 t = V c main_arg4 := by
  obtain ⟨e₀, e₁⟩ := (by decide +kernel : ∀ t : Fin grid1.N, win1_2.index t (0 : Fin 2) = 0 ∧ win1_2.index t (1 : Fin 2) = 0) t
  exact funext fun j => congrArg (V c main_arg4) (funext fun b => Fin.ext (match b with | ⟨0, _⟩ => from_zero e₀ _ _ | ⟨1, _⟩ => from_zero e₁ _ _))
/-- Operand 3 of the second call comes whole in its block. -/
theorem all₃ : iblk1 V c 3 t = V c main_arg5 := by
  obtain ⟨e₀, e₁⟩ := (by decide +kernel : ∀ t : Fin grid1.N, win1_3.index t (0 : Fin 2) = 0 ∧ win1_3.index t (1 : Fin 2) = 0) t
  exact funext fun j => congrArg (V c main_arg5) (funext fun b => Fin.ext (match b with | ⟨0, _⟩ => from_zero e₀ _ _ | ⟨1, _⟩ => from_zero e₁ _ _))
/-- Operand 4 of the second call comes whole in its block. -/
theorem all₄ : iblk1 V c 4 t = V c main_v9 := by
  obtain ⟨e₀, e₁⟩ := (by decide +kernel : ∀ t : Fin grid1.N, win1_4.index t (0 : Fin 2) = 0 ∧ win1_4.index t (1 : Fin 2) = 0) t
  exact funext fun j => congrArg (V c main_v9) (funext fun b => Fin.ext (match b with | ⟨0, _⟩ => from_zero e₀ _ _ | ⟨1, _⟩ => from_zero e₁ _ _))
/-- Operand 5 of the second call comes whole in its block. -/
theorem all₅ : iblk1 V c 5 t = V c main_v10 := by
  obtain ⟨e₀, e₁⟩ := (by decide +kernel : ∀ t : Fin grid1.N, win1_5.index t (0 : Fin 2) = 0 ∧ win1_5.index t (1 : Fin 2) = 0) t
  exact funext fun j => congrArg (V c main_v10) (funext fun b => Fin.ext (match b with | ⟨0, _⟩ => from_zero e₀ _ _ | ⟨1, _⟩ => from_zero e₁ _ _))
/-- Operand 6 of the second call comes whole in its block. -/
theorem all₆ : iblk1 V c 6 t = V c main_v11 := by
  obtain ⟨e₀, e₁⟩ := (by decide +kernel : ∀ t : Fin grid1.N, win1_6.index t (0 : Fin 2) = 0 ∧ win1_6.index t (1 : Fin 2) = 0) t
  exact funext fun j => congrArg (V c main_v11) (funext fun b => Fin.ext (match b with | ⟨0, _⟩ => from_zero e₀ _ _ | ⟨1, _⟩ => from_zero e₁ _ _))
/-- Operand 7 of the second call comes whole in its block. -/
theorem all₇ : iblk1 V c 7 t = V c main_arg15 := by
  obtain ⟨e₀, e₁⟩ := (by decide +kernel : ∀ t : Fin grid1.N, win1_7.index t (0 : Fin 2) = 0 ∧ win1_7.index t (1 : Fin 2) = 0) t
  exact funext fun j => congrArg (V c main_arg15) (funext fun b => Fin.ext (match b with | ⟨0, _⟩ => from_zero e₀ _ _ | ⟨1, _⟩ => from_zero e₁ _ _))
/-- Operand 8 of the second call comes whole in its block. -/
theorem all₈ : iblk1 V c 8 t = V c main_v12 := by
  obtain ⟨e₀, e₁⟩ := (by decide +kernel : ∀ t : Fin grid1.N, win1_8.index t (0 : Fin 2) = 0 ∧ win1_8.index t (1 : Fin 2) = 0) t
  exact funext fun j => congrArg (V c main_v12) (funext fun b => Fin.ext (match b with | ⟨0, _⟩ => from_zero e₀ _ _ | ⟨1, _⟩ => from_zero e₁ _ _))
/-- Operand 9 of the second call comes whole in its block. -/
theorem all₉ : iblk1 V c 9 t = V c main_arg17 := by
  obtain ⟨e₀, e₁⟩ := (by decide +kernel : ∀ t : Fin grid1.N, win1_9.index t (0 : Fin 2) = 0 ∧ win1_9.index t (1 : Fin 2) = 0) t
  exact funext fun j => congrArg (V c main_arg17) (funext fun b => Fin.ext (match b with | ⟨0, _⟩ => from_zero e₀ _ _ | ⟨1, _⟩ => from_zero e₁ _ _))
/-- Operand 10 of the second call comes whole in its block. -/
theorem all₁₀ : iblk1 V c 10 t = V c main_v13 := by
  obtain ⟨e₀, e₁⟩ := (by decide +kernel : ∀ t : Fin grid1.N, win1_10.index t (0 : Fin 2) = 0 ∧ win1_10.index t (1 : Fin 2) = 0) t
  exact funext fun j => congrArg (V c main_v13) (funext fun b => Fin.ext (match b with | ⟨0, _⟩ => from_zero e₀ _ _ | ⟨1, _⟩ => from_zero e₁ _ _))
/-- Operand 11 of the second call comes whole in its block. -/
theorem all₁₁ : iblk1 V c 11 t = V c main_arg19 := by
  obtain ⟨e₀, e₁⟩ := (by decide +kernel : ∀ t : Fin grid1.N, win1_11.index t (0 : Fin 2) = 0 ∧ win1_11.index t (1 : Fin 2) = 0) t
  exact funext fun j => congrArg (V c main_arg19) (funext fun b => Fin.ext (match b with | ⟨0, _⟩ => from_zero e₀ _ _ | ⟨1, _⟩ => from_zero e₁ _ _))
/-- Operand 12 of the second call comes whole in its block. -/
theorem all₁₂ : iblk1 V c 12 t = V c main_v14 := by
  obtain ⟨e₀, e₁⟩ := (by decide +kernel : ∀ t : Fin grid1.N, win1_12.index t (0 : Fin 2) = 0 ∧ win1_12.index t (1 : Fin 2) = 0) t
  exact funext fun j => congrArg (V c main_v14) (funext fun b => Fin.ext (match b with | ⟨0, _⟩ => from_zero e₀ _ _ | ⟨1, _⟩ => from_zero e₁ _ _))
/-- Operand 13 of the second call comes whole in its block. -/
theorem all₁₃ : iblk1 V c 13 t = V c main_arg21 := by
  obtain ⟨e₀, e₁⟩ := (by decide +kernel : ∀ t : Fin grid1.N, win1_13.index t (0 : Fin 2) = 0 ∧ win1_13.index t (1 : Fin 2) = 0) t
  exact funext fun j => congrArg (V c main_arg21) (funext fun b => Fin.ext (match b with | ⟨0, _⟩ => from_zero e₀ _ _ | ⟨1, _⟩ => from_zero e₁ _ _))
/-- Operand 14 of the second call comes whole in its block. -/
theorem all₁₄ : iblk1 V c 14 t = V c main_v15 := by
  obtain ⟨e₀, e₁⟩ := (by decide +kernel : ∀ t : Fin grid1.N, win1_14.index t (0 : Fin 2) = 0 ∧ win1_14.index t (1 : Fin 2) = 0) t
  exact funext fun j => congrArg (V c main_v15) (funext fun b => Fin.ext (match b with | ⟨0, _⟩ => from_zero e₀ _ _ | ⟨1, _⟩ => from_zero e₁ _ _))
/-- Operand 15 of the second call comes whole in its block. -/
theorem all₁₅ : iblk1 V c 15 t = V c main_arg23 := by
  obtain ⟨e₀, e₁⟩ := (by decide +kernel : ∀ t : Fin grid1.N, win1_15.index t (0 : Fin 2) = 0 ∧ win1_15.index t (1 : Fin 2) = 0) t
  exact funext fun j => congrArg (V c main_arg23) (funext fun b => Fin.ext (match b with | ⟨0, _⟩ => from_zero e₀ _ _ | ⟨1, _⟩ => from_zero e₁ _ _))
/-- Operand 16 of the second call comes whole in its block. -/
theorem all₁₆ : iblk1 V c 16 t = V c main_v16 := by
  obtain ⟨e₀, e₁⟩ := (by decide +kernel : ∀ t : Fin grid1.N, win1_16.index t (0 : Fin 2) = 0 ∧ win1_16.index t (1 : Fin 2) = 0) t
  exact funext fun j => congrArg (V c main_v16) (funext fun b => Fin.ext (match b with | ⟨0, _⟩ => from_zero e₀ _ _ | ⟨1, _⟩ => from_zero e₁ _ _))

/-- The result's block is the array. -/
theorem place₁₇ (k : Fin 40) : ((cfg1.win 17).blk t).view.emb (ix2 0 k) = (ix2 0 k : S1x40.Idx) := by
  obtain ⟨e₀, e₁⟩ := (by decide +kernel : ∀ t : Fin grid1.N, win1_17.index t (0 : Fin 2) = 0 ∧ win1_17.index t (1 : Fin 2) = 0) t
  funext b; apply Fin.ext
  match b with
  | ⟨0, _⟩ => exact from_zero e₀ _ _
  | ⟨1, _⟩ => exact from_zero e₁ _ _

end Cert.Whole
-- ==== Proof.Run.lean ====
module

public import proofs.«01_k».proof.Proof.Result

/- The program's run with its result: the network of the launch's arguments. -/

@[expose] public section

set_option maxRecDepth 16384

noncomputable section

namespace Cert.Whole

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Group Cert.Plain

variable (m : (ℓ : Loc nD τ sig) → Buf (Elt Ideal) ℓ) (ρ : Dev nD → PrngReg) (c : Dev nD)

/-- The network's scores of the launch's arguments. -/
def scores (j : Fin 40) : EReal :=
  Net.scored (features m c) (m ((c : Thread nD τ).loc main_arg3)) (m ((c : Thread nD τ).loc main_arg4)) (m ((c : Thread nD τ).loc main_arg5))
    (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) j

/-- The offsets of a load of a whole buffer. -/
theorem origin : (![0, 0] : Fin 2 → ℕ) = fun _ => 0 := funext fun a => match a with | ⟨0, _⟩ => rfl | ⟨1, _⟩ => rfl

/-- The body's stored block, its loads being of whole buffers. -/
theorem stored (x0 : FVec Ideal S128x256 .f32) (x1 x2 x3 : FVec Ideal S128x1 .f32) (x4 : FVec Ideal S256x256 .f32) (x5 : FVec Ideal S3x256 .f32)
    (x6 : FVec Ideal S1x256 .f32) (x7 : FVec Ideal S256x512 .f32) (x8 : FVec Ideal S1x512 .f32) (x9 : FVec Ideal S512x1024 .f32)
    (x10 : FVec Ideal S1x1024 .f32) (x11 : FVec Ideal S1024x512 .f32) (x12 : FVec Ideal S1x512 .f32) (x13 : FVec Ideal S512x256 .f32)
    (x14 : FVec Ideal S1x256 .f32) (x15 : FVec Ideal S256x40 .f32) (x16 : FVec Ideal S1x40 .f32) :
    out1_17 (F := Ideal) x0 x1 x2 x3 x4 x5 x6 x7 x8 x9 x10 x11 x12 x13 x14 x15 x16
      = k1_pay1 (F := Ideal) (k1_pay3 (k1_pay2 x1 x2 x3 x0 x4 x5) x6 x7 x8 x9 x10 x11 x12 x13) x14 x15 x16 := by
  unfold out1_17
  refine (View.canon_unit_zero origin inb_S1x40_S1x40_0_0 _).trans ?_
  rw [View.ld_unit_zero origin, View.ld_unit_zero origin, View.ld_unit_zero origin, View.ld_unit_zero origin, View.ld_unit_zero origin,
    View.ld_unit_zero origin, View.ld_unit_zero origin, View.ld_unit_zero origin, View.ld_unit_zero origin, View.ld_unit_zero origin,
    View.ld_unit_zero origin, View.ld_unit_zero origin, View.ld_unit_zero origin, View.ld_unit_zero origin, View.ld_unit_zero origin,
    View.ld_unit_zero origin, View.ld_unit_zero origin]

/-- The second region stores the scores. -/
theorem stored_scores (t : Fin cfg1.N) (j : Fin 40) : (dat1 (V3 m ρ) c).after 17 t (ix2 0 j) = scores m c j := by
  rw [after1_17, all₀, all₁, all₂, all₃, all₄, all₅, all₆, all₇, all₈, all₉, all₁₀, all₁₁, all₁₂, all₁₃, all₁₄, all₁₅, all₁₆]
  refine (congrFun (stored _ _ _ _ _ _ _ _ _ _ _ _ _ _ _ _ _) _).trans ?_
  refine (tail_apply _ _ _ _ _ _ _ _ _ _ _ _ _ _ _ _ _ j).trans ?_
  have hwa : (fun (k : Fin 256) (j : Fin 256) => (V3 m ρ c main_v9 : FVec Ideal S256x256 .f32) (ix2 k j))
      = fun k j => m ((c : Thread nD τ).loc main_arg13) (ix2 (Fin.castAdd 3 k : Fin 259) j) := by
    rw [later_wa]; funext k j
    exact extractStridedSlice_apply _ _ _ _ _ (fun a => match a with | ⟨0, _⟩ => (Nat.zero_add _).symm | ⟨1, _⟩ => (Nat.zero_add _).symm)
  have hwb : (fun (a : Fin 3) (j : Fin 256) => (V3 m ρ c main_v10 : FVec Ideal S3x256 .f32) (ix2 a j))
      = fun a j => m ((c : Thread nD τ).loc main_arg13) (ix2 (Fin.natAdd 256 a : Fin 259) j) := by
    rw [later_wb]; funext k j
    exact extractStridedSlice_apply _ _ _ _ _ (fun a => match a with | ⟨0, _⟩ => rfl | ⟨1, _⟩ => (Nat.zero_add _).symm)
  have hb₁ : (fun j : Fin 256 => (V3 m ρ c main_v11 : FVec Ideal S1x256 .f32) (ix2 0 j)) = fun j => m ((c : Thread nD τ).loc main_arg14) (ix1 j) := by
    rw [later_b₁]; exact funext fun j => shapeCast_a_1a_apply _ _ 0 j
  have hb₂ : (fun j : Fin 512 => (V3 m ρ c main_v12 : FVec Ideal S1x512 .f32) (ix2 0 j)) = fun j => m ((c : Thread nD τ).loc main_arg16) (ix1 j) := by
    rw [later_b₂]; exact funext fun j => shapeCast_a_1a_apply _ _ 0 j
  have hb₃ : (fun j : Fin 1024 => (V3 m ρ c main_v13 : FVec Ideal S1x1024 .f32) (ix2 0 j)) = fun j => m ((c : Thread nD τ).loc main_arg18) (ix1 j) := by
    rw [later_b₃]; exact funext fun j => shapeCast_a_1a_apply _ _ 0 j
  have hb₄ : (fun j : Fin 512 => (V3 m ρ c main_v14 : FVec Ideal S1x512 .f32) (ix2 0 j)) = fun j => m ((c : Thread nD τ).loc main_arg20) (ix1 j) := by
    rw [later_b₄]; exact funext fun j => shapeCast_a_1a_apply _ _ 0 j
  have hb₅ : (fun j : Fin 256 => (V3 m ρ c main_v15 : FVec Ideal S1x256 .f32) (ix2 0 j)) = fun j => m ((c : Thread nD τ).loc main_arg22) (ix1 j) := by
    rw [later_b₅]; exact funext fun j => shapeCast_a_1a_apply _ _ 0 j
  have hb₆ : (fun j : Fin 40 => (V3 m ρ c main_v16 : FVec Ideal S1x40 .f32) (ix2 0 j)) = fun j => m ((c : Thread nD τ).loc main_arg24) (ix1 j) := by
    rw [later_b₆]; exact funext fun j => shapeCast_a_1a_apply _ _ 0 j
  have h3 : V3 m ρ c main_arg3 = m ((c : Thread nD τ).loc main_arg3) := W3_args m ρ c main_arg3 (by decide)
  have h4 : V3 m ρ c main_arg4 = m ((c : Thread nD τ).loc main_arg4) := W3_args m ρ c main_arg4 (by decide)
  have h5 : V3 m ρ c main_arg5 = m ((c : Thread nD τ).loc main_arg5) := W3_args m ρ c main_arg5 (by decide)
  have h15 : V3 m ρ c main_arg15 = m ((c : Thread nD τ).loc main_arg15) := W3_args m ρ c main_arg15 (by decide)
  have h17 : V3 m ρ c main_arg17 = m ((c : Thread nD τ).loc main_arg17) := W3_args m ρ c main_arg17 (by decide)
  have h19 : V3 m ρ c main_arg19 = m ((c : Thread nD τ).loc main_arg19) := W3_args m ρ c main_arg19 (by decide)
  have h21 : V3 m ρ c main_arg21 = m ((c : Thread nD τ).loc main_arg21) := W3_args m ρ c main_arg21 (by decide)
  have h23 : V3 m ρ c main_arg23 = m ((c : Thread nD τ).loc main_arg23) := W3_args m ρ c main_arg23 (by decide)
  rw [hwa, hwb, hb₁, hb₂, hb₃, hb₄, hb₅, hb₆, h3, h4, h5, h15, h17, h19, h21, h23, later_features]
  rfl

/-- So the result's array ends at the scores. -/
theorem result_array : (dat1 (V3 m ρ) c).arrAt 17 cfg1.N = fun i : S1x40.Idx => scores m c (i 1) :=
  (dat1 (V3 m ρ) c).arrAt_eq_of_covers 17 (fun i : S1x40.Idx => scores m c (i 1)) (by decide +kernel) fun t _ y => by
    obtain ⟨k, rfl⟩ : ∃ k : Fin 40, y = ix2 0 k :=
      ⟨y 1, funext fun b => match b with | ⟨0, _⟩ => Subsingleton.elim (α := Fin 1) _ _ | ⟨1, _⟩ => rfl⟩
    rw [place₁₇]
    exact stored_scores m ρ c t k

/-- The program's machine, as the launch is stated over it. -/
abbrev Machine := MT nD τ sig Unit (Elt Ideal) ℕ (UR sig nD τ) ℕ

set_option backward.isDefEq.respectTransparency.types false in
/-- The program runs to its end without a fault, leaves its arguments as they were, and leaves the scores in its result. -/
theorem run : θ_run defs (onTc (τ := τ) (main (F := Ideal))) ⟨m, fun _ => 0, ρ⟩ (fun r => ∀ c : Dev nD,
      r.2.mem ((c.tc : Thread nD τ).loc main_v17) = (fun i : S1x40.Idx => scores m c (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Machine)
            ⊢ BI.own (emb₁ (initOf (Pipeline.cells cfgs cellOf_inj) (Pipeline.launchToks cfgs cellOf_inj))) from .rfl)
        iexact Hu
      iapply (show (BI.emp : sProp Machine) ⊢ bigSep Finset.univ (fun _ : Dev nD => (BI.emp : sProp Machine)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v17 (by decide))).trans ((W4_arr m ρ c 17).trans (result_array m ρ c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c),
       (h c _ (mem_uc main_arg22 (by decide))).trans (W4_main_arg22 m ρ c),
       (h c _ (mem_uc main_arg23 (by decide))).trans (W4_main_arg23 m ρ c),
       (h c _ (mem_uc main_arg24 (by decide))).trans (W4_main_arg24 m ρ c)⟩)

end Cert.Whole
-- ==== Proof.Near.lean ====
module

public import proofs.«01_k».proof.Proof.Layers
public import proofs.«01_k».proof.Proof.Net
public import proofs.«01_k».proof.Proof.Gen.ReferenceIdeal.Read

/- The reference's distances, its sixty-four nearest points of each centre, and what it gathers at them. -/

@[expose] public section

set_option maxRecDepth 16384

noncomputable section

namespace Cert.Side

open Idealize.ShloMosaic Idealize.ShloMosaic.ValueIdx Idealize.SL.Sem Cert.ReferenceIdeal Cert.ReferenceIdeal.Gen Cert.ReferenceIdeal.Read
open Cert.Plain Cert.Rank Cert.Group

/-- An index of two axes by its coordinates. -/
theorem at₂ {a b : ℕ} (f : (⟨2, ![a, b]⟩ : Shape).Idx) (i : Fin a) (j : Fin b) (h₀ : (f 0).val = i.val) (h₁ : (f 1).val = j.val) : f = ix2 i j :=
  funext fun x => Fin.ext (match x with | ⟨0, _⟩ => h₀ | ⟨1, _⟩ => h₁)

/-- An index of three axes by its coordinates. -/
theorem at₃ {a b c : ℕ} (f : (⟨3, ![a, b, c]⟩ : Shape).Idx) (i : Fin a) (j : Fin b) (k : Fin c) (h₀ : (f 0).val = i.val) (h₁ : (f 1).val = j.val)
    (h₂ : (f 2).val = k.val) : f = ix3 i j k :=
  funext fun x => Fin.ext (match x with | ⟨0, _⟩ => h₀ | ⟨1, _⟩ => h₁ | ⟨2, _⟩ => h₂)

/-- An index of one axis by its coordinate. -/
theorem at₁ {a : ℕ} (f : (⟨1, ![a]⟩ : Shape).Idx) (i : Fin a) (h₀ : (f 0).val = i.val) : f = ix1 i :=
  funext fun x => Fin.ext (match x with | ⟨0, _⟩ => h₀)

/-! ## Distances -/

variable (x0 x1 x2 : FVec Ideal S512x1 .f32) (x3 x4 x5 : FVec Ideal S128x1 .f32)

/-- The points' coordinates. -/
def pts (a : Fin 3) (k : Fin 512) : EReal := ![x0, x1, x2] a (ix2 k 0)

/-- The coordinates of centre `i`. -/
def ctr (i : Fin 128) (a : Fin 3) : EReal := ![x3, x4, x5] a (ix2 i 0)

/-- The reference's array of points, read at a point and a coordinate, -/
theorem v0_apply (k : Fin 512) (a : Fin 3) : val_main_v0 (F := Ideal) x0 x1 x2 (ix2 k a) = pts x0 x1 x2 a k :=
  columns ![x0, x1, x2] concatenates_S512x1_S512x1_S512x1_S512x3_d1 k a

/-- and its array of centres. -/
theorem v1_apply (i : Fin 128) (a : Fin 3) : val_main_v1 (F := Ideal) x3 x4 x5 (ix2 i a) = ctr x3 x4 x5 i a :=
  columns ![x3, x4, x5] concatenates_S128x1_S128x1_S128x1_S128x3_d1 i a

/-- The squared length of a centre, -/
theorem v3_at (i : Fin 128) : val_main_v3 (F := Ideal) x3 x4 x5 (ix1 i)
    = (ctr x3 x4 x5 i 0 * ctr x3 x4 x5 i 0 + ctr x3 x4 x5 i 1 * ctr x3 x4 x5 i 1) + ctr x3 x4 x5 i 2 * ctr x3 x4 x5 i 2 := by
  rw [val_main_v3_apply]
  have e (a : Fin 3) : val_main_v2 (F := Ideal) x3 x4 x5 (idx_main_v3 (ix1 i) a) = ctr x3 x4 x5 i a * ctr x3 x4 x5 i a := by
    rw [at₂ (idx_main_v3 (ix1 i) a) i a rfl rfl, val_main_v2_apply, v1_apply]; rfl
  simp only [e]
  rw [Fin.sum_univ_three]
  exact (congrArg (· + _) Ideal.ofBits_zero_f32).trans (zero_add _)

/-- and of a point. -/
theorem v6_at (k : Fin 512) : val_main_v6 (F := Ideal) x0 x1 x2 (ix1 k)
    = (pts x0 x1 x2 0 k * pts x0 x1 x2 0 k + pts x0 x1 x2 1 k * pts x0 x1 x2 1 k) + pts x0 x1 x2 2 k * pts x0 x1 x2 2 k := by
  rw [val_main_v6_apply]
  have e (a : Fin 3) : val_main_v5 (F := Ideal) x0 x1 x2 (idx_main_v6 (ix1 k) a) = pts x0 x1 x2 a k * pts x0 x1 x2 a k := by
    rw [at₂ (idx_main_v6 (ix1 k) a) k a rfl rfl, val_main_v5_apply, v0_apply]; rfl
  simp only [e]
  rw [Fin.sum_univ_three]
  exact (congrArg (· + _) Ideal.ofBits_zero_f32).trans (zero_add _)

/-- The product of a centre and a point. -/
theorem v12_at (i : Fin 128) (k : Fin 512) : val_main_v12 (F := Ideal) x0 x1 x2 x3 x4 x5 (ix2 i k) = ∑ a, ctr x3 x4 x5 i a * pts x0 x1 x2 a k := by
  rw [val_main_v12_apply]
  refine Finset.sum_congr rfl fun a _ => ?_
  rw [at₂ (lidx_main_v12 (ix2 i k) a) i a rfl rfl, v1_apply, val_main_v11_apply, at₂ (idx_main_v11 _) k a rfl rfl, v0_apply]

/-- The reference's squared distances, infinite outside the ball. -/
theorem v20_at (i : Fin 128) (k : Fin 512) :
    val_main_v20 (F := Ideal) x0 x1 x2 x3 x4 x5 (ix2 i k) = ball (pts x0 x1 x2) (ctr x3 x4 x5 i) k := by
  have hu : val_main_v17 (F := Ideal) x0 x1 x2 x3 x4 x5 (ix2 i k)
      = max ((((ctr x3 x4 x5 i 0 * ctr x3 x4 x5 i 0 + ctr x3 x4 x5 i 1 * ctr x3 x4 x5 i 1) + ctr x3 x4 x5 i 2 * ctr x3 x4 x5 i 2)
          + ((pts x0 x1 x2 0 k * pts x0 x1 x2 0 k + pts x0 x1 x2 1 k * pts x0 x1 x2 1 k) + pts x0 x1 x2 2 k * pts x0 x1 x2 2 k))
        - Ideal.ofBits .f32 0x40000000#32 * ∑ a, ctr x3 x4 x5 i a * pts x0 x1 x2 a k) 0 := by
    rw [val_main_v17_apply, val_main_v15_apply, val_main_v10_apply, val_main_v14_apply, val_main_v8_apply, val_main_v9_apply, v12_at,
      val_main_v4_apply, val_main_v7_apply, at₁ (idx_main_v4 _) i rfl, at₁ (idx_main_v7 _) k rfl, v3_at, v6_at]
    exact congrArg (max _) Ideal.ofBits_zero_f32
  rw [val_main_v20_apply, val_main_v19_apply, hu]
  refine (select_ofBool _ _ _).trans ?_
  simp only [decide_eq_true_eq]
  exact ite_congr rfl (fun _ => rfl) fun _ => bits_top

/-! ## The nearest -/

/-- The reference takes the positions in the order of their distances. -/
theorem order (x : FVec Ideal S128x512 .f32) (d : Fin 512 → EReal) (i : Fin 128) (hx : ∀ k, x (ix2 i k) = -d k) (y : IVec S128x512 32) (s : Fin 512) :
    sortedFrom (fun k k' => (fun l r : Ideal .f32 × BitVec 32 => FloatOps.cmpfTotal (F := Ideal) .gt l.1 r.1)
        (x ((ix2 i s : S128x512.Idx).along 1 k), y ((ix2 i s : S128x512.Idx).along 1 k))
        (x ((ix2 i s : S128x512.Idx).along 1 k'), y ((ix2 i s : S128x512.Idx).along 1 k')) == 1#1) s = rank d s := by
  refine congrArg (fun b => sortedFrom b s) (funext fun (k : Fin 512) => funext fun (k' : Fin 512) => ?_)
  have e (k : Fin 512) : x ((ix2 i s : S128x512.Idx).along 1 k) = -d k := (congrArg x (at₂ _ i k rfl rfl)).trans (hx k)
  refine (congrArg₂ (fun a b : EReal => FloatOps.cmpfTotal (F := Ideal) (φ := .f32) .gt a b == 1#1) (e k) (e k')).trans ?_
  show (BitVec.ofBool (decide (-d k' < -d k)) == 1#1) = _
  show _ = decide (d k < d k')
  by_cases h : d k < d k'
  · rw [decide_eq_true h, decide_eq_true (EReal.neg_lt_neg_iff.mpr h)]; rfl
  · rw [decide_eq_false h, decide_eq_false (fun g => h (EReal.neg_lt_neg_iff.mp g))]; rfl

/-- The positions along the second axis, as words. -/
def places : IVec S128x512 32 := fun i => BitVec.ofNat 32 (i 1).val

/-- A two-operand sort along the second axis, at a cell: both operands at the position the comparison puts there. -/
theorem sorted_at {α β : Type} (cmp : α × β → α × β → BitVec 1) (x : S128x512.Idx → α) (y : S128x512.Idx → β) (i : Fin 128) (s r : Fin 512)
    (hr : sortedFrom (fun k k' : Fin 512 => cmp (x ((ix2 i s : S128x512.Idx).along 1 k), y ((ix2 i s : S128x512.Idx).along 1 k))
      (x ((ix2 i s : S128x512.Idx).along 1 k'), y ((ix2 i s : S128x512.Idx).along 1 k')) == 1#1) s = r) :
    (Host.sort2 S128x512 1 cmp x y).1 (ix2 i s) = x (ix2 i r) ∧ (Host.sort2 S128x512 1 cmp x y).2 (ix2 i s) = y (ix2 i r) := by
  have e : (ix2 i s : S128x512.Idx).along 1 r = ix2 i r := at₂ _ i r rfl rfl
  subst hr
  unfold Host.sort2
  rw [dif_pos (by decide)]
  exact ⟨congrArg x e, congrArg y e⟩

/-- The first sixty-four of a row, at a cell. -/
theorem cut_at {α : Type} (v : S128x512.Idx → α) (i : Fin 128) (t : Fin 64) :
    extractStridedSlice S128x64 (fun _ => 0) v sliceFits_S128x512_S128x64 (ix2 i t) = v (ix2 i (⟨t.val, by omega⟩ : Fin 512)) :=
  extractStridedSlice_apply _ _ _ _ _ fun a => (match a with | ⟨0, _⟩ => (Nat.zero_add _).symm | ⟨1, _⟩ => (Nat.zero_add _).symm)

/-- The two results of the top 64 of the rows are the sorted rows and positions, cut after 64. -/
theorem topK_cut (x : FVec Ideal S128x512 .f32) :
    Host.topK S128x64 1 (FloatOps.cmpfTotal (F := Ideal) .gt) x sliceFits_S128x512_S128x64
      = (extractStridedSlice S128x64 (fun _ => 0) (Host.sort2 S128x512 1 (fun l r : Ideal .f32 × BitVec 32 => FloatOps.cmpfTotal (F := Ideal) .gt l.1 r.1) x places).1
          sliceFits_S128x512_S128x64,
        extractStridedSlice S128x64 (fun _ => 0) (Host.sort2 S128x512 1 (fun l r : Ideal .f32 × BitVec 32 => FloatOps.cmpfTotal (F := Ideal) .gt l.1 r.1) x places).2
          sliceFits_S128x512_S128x64) := by
  have hp : places = fun i : S128x512.Idx => if hd : 1 < S128x512.rank then iotaInDim S128x512 32 ⟨1, hd⟩ i else 0#32 := by
    funext i
    rw [dif_pos (by decide)]
    rfl
  rw [hp]
  rfl

/-- What the sixty-four greatest of a row hold: the operand at the positions of least `d`, and those positions. -/
theorem top_apply (x : FVec Ideal S128x512 .f32) (d : Fin 512 → EReal) (i : Fin 128) (hx : ∀ k, x (ix2 i k) = -d k) (t : Fin 64) :
    (Host.topK S128x64 1 (FloatOps.cmpfTotal (F := Ideal) .gt) x sliceFits_S128x512_S128x64).1 (ix2 i t) = -d (near d t)
      ∧ (Host.topK S128x64 1 (FloatOps.cmpfTotal (F := Ideal) .gt) x sliceFits_S128x512_S128x64).2 (ix2 i t) = BitVec.ofNat 32 (near d t).val := by
  have ho := order x d i hx places (⟨t.val, by omega⟩ : Fin 512)
  have h := sorted_at (fun l r : Ideal .f32 × BitVec 32 => FloatOps.cmpfTotal (F := Ideal) .gt l.1 r.1) x places i _ _ ho
  rw [topK_cut]
  unfold near
  generalize rank d (⟨t.val, by omega⟩ : Fin 512) = r at h ⊢
  rw [hx] at h
  exact ⟨(cut_at _ i t).trans h.1, (cut_at _ i t).trans h.2⟩

/-- The negated distances. -/
theorem v21_at (i : Fin 128) (k : Fin 512) :
    val_main_v21 (F := Ideal) x0 x1 x2 x3 x4 x5 (ix2 i k) = -ball (pts x0 x1 x2) (ctr x3 x4 x5 i) k := by
  rw [val_main_v21_apply, v20_at]; rfl

/-- The distances of centre `i`. -/
def dst (i : Fin 128) : Fin 512 → EReal := ball (pts x0 x1 x2) (ctr x3 x4 x5 i)

/-- The values of the top 64 are the negated distances of the nearest points, -/
theorem values_at (i : Fin 128) (t : Fin 64) :
    val_main_values (F := Ideal) x0 x1 x2 x3 x4 x5 (ix2 i t) = -dst x0 x1 x2 x3 x4 x5 i (near (dst x0 x1 x2 x3 x4 x5 i) t) :=
  (top_apply _ _ i (v21_at x0 x1 x2 x3 x4 x5 i) t).1

/-- and its positions are the nearest points' numbers. -/
theorem indices_at (i : Fin 128) (t : Fin 64) :
    val_main_indices (F := Ideal) x0 x1 x2 x3 x4 x5 (ix2 i t) = BitVec.ofNat 32 (near (dst x0 x1 x2 x3 x4 x5 i) t).val :=
  (top_apply _ _ i (v21_at x0 x1 x2 x3 x4 x5 i) t).2

end Cert.Side
-- ==== Proof.Gather.lean ====
module

public import proofs.«01_k».proof.Proof.Near

/- What the reference gathers at the nearest points, and the first layer's operand made of it. -/

@[expose] public section

set_option maxRecDepth 16384

noncomputable section

namespace Cert.Side

open Idealize.ShloMosaic Idealize.ShloMosaic.ValueIdx Idealize.SL.Sem Cert.ReferenceIdeal Cert.ReferenceIdeal.Gen Cert.ReferenceIdeal.Read
open Cert.Plain Cert.Rank Cert.Group

/-! ## A gather of whole rows -/

/-- The dimension numbers of `x[idx]` of a table `[N, C]` at an array `[R, T]` of row numbers. -/
abbrev rowDims (N C R T : ℕ) (wf : GatherDims.WF ⟨2, ![N, C]⟩ ⟨3, ![R, T, 1]⟩ ⟨3, ![R, T, C]⟩ [2] [0] [] [0] [] 2 ![1, C]) :
    GatherDims ⟨2, ![N, C]⟩ ⟨3, ![R, T, 1]⟩ ⟨3, ![R, T, C]⟩ where
  offsetDims := [2]
  collapsedSliceDims := [0]
  operandBatchingDims := []
  startIndicesBatchingDims := []
  startIndexMap := [0]
  indexVectorDim := 2
  sliceSizes := ![1, C]
  wf := wf

/-- The gather at a cell whose row number is `s`: row `s` of the table. -/
theorem rows_at {N C R T : ℕ} {α : Type} (wf : GatherDims.WF ⟨2, ![N, C]⟩ ⟨3, ![R, T, 1]⟩ ⟨3, ![R, T, C]⟩ [2] [0] [] [0] [] 2 ![1, C])
    (x : (⟨2, ![N, C]⟩ : Shape).Idx → α) (idx : IVec ⟨3, ![R, T, 1]⟩ 32) (r : Fin R) (t : Fin T) (j : Fin C) (s : Fin N)
    (hs : (idx (ix3 r t 0)).toInt.toNat = s.val) : Host.gather (rowDims N C R T wf) x idx (ix3 r t j) = x (ix2 s j) := by
  unfold Host.gather
  refine congrArg x (at₂ _ s j ?_ ?_)
  · show (rowDims N C R T wf).start (ix3 r t j) idx 0 + (rowDims N C R T wf).batchCoord (ix3 r t j) 0 + (rowDims N C R T wf).offCoord (ix3 r t j) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowDims N C R T wf).startIndexMap from List.mem_singleton.mpr rfl)]
    have e : (rowDims N C R T wf).siIdx (ix3 r t j) ⟨List.idxOf (0 : Fin 2) (rowDims N C R T wf).startIndexMap,
        List.idxOf_lt_length_iff.2 (List.mem_singleton.mpr rfl)⟩ = ix3 r t 0 := at₃ _ _ _ _ rfl rfl rfl
    rw [e, hs]
    show min s.val (N - 1) + 0 + 0 = s.val
    omega
  · show (rowDims N C R T wf).start (ix3 r t j) idx 1 + (rowDims N C R T wf).batchCoord (ix3 r t j) 1 + (rowDims N C R T wf).offCoord (ix3 r t j) 1 = _
    have h1 : (1 : Fin 2) ∉ (rowDims N C R T wf).startIndexMap := fun h => absurd (List.mem_singleton.mp h) (Fin.ne_of_val_ne (Nat.one_ne_zero))
    rw [GatherDims.batchCoord_eq_zero _ _ _ List.not_mem_nil]
    unfold GatherDims.start
    rw [dif_neg h1]
    show 0 + 0 + (rowDims N C R T wf).offCoord (ix3 r t j) 1 = j.val
    rw [Nat.zero_add]
    rfl

/-! ## The reference's gathers -/

variable (x0 x1 x2 : FVec Ideal S512x1 .f32) (x3 x4 x5 : FVec Ideal S128x1 .f32)

/-- Position `t` nearest to centre `i`. -/
def nst (i : Fin 128) (t : Fin 64) : Fin 512 := near (dst x0 x1 x2 x3 x4 x5 i) t

/-- Whether the point at a position lies in the ball. -/
theorem v23_at (i : Fin 128) (t : Fin 64) : val_main_v23 (F := Ideal) x0 x1 x2 x3 x4 x5 (ix2 i t)
    = BitVec.ofBool (decide (dst x0 x1 x2 x3 x4 x5 i (nst x0 x1 x2 x3 x4 x5 i t) < ⊤)) := by
  rw [val_main_v23_apply, values_at, val_main_v22_apply, val_main_cst_5_apply]
  show BitVec.ofBool (decide (Ideal.ofBits .f32 0xFF800000#32 < -dst x0 x1 x2 x3 x4 x5 i (nst x0 x1 x2 x3 x4 x5 i t))) = _
  refine congrArg BitVec.ofBool (decide_eq_decide.mpr ?_)
  rw [bits_bot, ← EReal.neg_top, EReal.neg_lt_neg_iff]

/-- A row number below 512 is its own signed reading, and is not negative. -/
theorem word_at (s : Fin 512) : (BitVec.ofNat 32 s.val).toInt = s.val := by
  rw [BitVec.toInt_eq_toNat_cond, BitVec.toNat_ofNat]
  split <;> omega

/-- A row number below 512 is not negative. -/
theorem not_below (s : Fin 512) : IntOp.cmpi .slt (BitVec.ofNat 32 s.val) 0#32 = 0#1 := by
  show BitVec.ofBool (BitVec.slt (BitVec.ofNat 32 s.val) 0#32) = 0#1
  have : BitVec.slt (BitVec.ofNat 32 s.val) 0#32 = false := by
    rw [BitVec.slt, word_at]
    exact decide_eq_false (by simp)
  rw [this]; rfl

variable {x0 x1 x2 x3 x4 x5} {i : Fin 128} {t : Fin 64} (hin : dst x0 x1 x2 x3 x4 x5 i (nst x0 x1 x2 x3 x4 x5 i t) < ⊤)

include hin

/-- In the ball, the row number that the reference gathers is the nearest point's. -/
theorem v24_at : val_main_v24 (F := Ideal) x0 x1 x2 x3 x4 x5 (ix2 i t) = BitVec.ofNat 32 (nst x0 x1 x2 x3 x4 x5 i t).val := by
  rw [val_main_v24_apply, v23_at, indices_at, decide_eq_true hin]; rfl

/-- The same where it takes the coordinates, a negative number wrapped around, -/
theorem v30_at : (val_main_v30 (F := Ideal) x0 x1 x2 x3 x4 x5 (ix3 i t 0)).toInt.toNat = (nst x0 x1 x2 x3 x4 x5 i t).val := by
  rw [val_main_v30_apply, at₂ (idx_main_v30 _) i t rfl rfl, val_main_v29_apply, val_main_v26_apply, v24_at hin, val_main_v25_apply, val_main_c_6_apply,
    not_below, select_zero, word_at, Int.toNat_natCast]

/-- and where it takes the features. -/
theorem v40_at : (val_main_v40 (F := Ideal) x0 x1 x2 x3 x4 x5 (ix3 i t 0)).toInt.toNat = (nst x0 x1 x2 x3 x4 x5 i t).val := by
  rw [val_main_v40_apply, at₂ (idx_main_v40 _) i t rfl rfl, val_main_v39_apply, val_main_v36_apply, v24_at hin, val_main_v35_apply, val_main_c_8_apply,
    not_below, select_zero, word_at, Int.toNat_natCast]

/-- The gathered coordinates, relative to the centre. -/
theorem v34_at (a : Fin 3) : val_main_v34 (F := Ideal) x0 x1 x2 x3 x4 x5 (ix3 i t a)
    = pts x0 x1 x2 a (nst x0 x1 x2 x3 x4 x5 i t) - ctr x3 x4 x5 i a := by
  have h31 : val_main_v31 (F := Ideal) x0 x1 x2 x3 x4 x5 (ix3 i t a) = pts x0 x1 x2 a (nst x0 x1 x2 x3 x4 x5 i t) :=
    (rows_at gather_S512x3_S128x64x1_S128x64x3_2_0_n_n_0_2_13.wf _ _ i t a _ (v30_at hin)).trans (v0_apply x0 x1 x2 _ a)
  rw [val_main_v34_apply, h31, val_main_v33_apply, at₃ (idx_main_v33 _) i 0 a rfl rfl rfl, val_main_v32_apply, at₂ (idx_main_v32 _) i a rfl rfl, v1_apply]
  rfl

/-- The gathered features. -/
theorem v41_at (x6 : FVec Ideal S512x128 .f32) (k : Fin 128) : val_main_v41 (F := Ideal) x0 x1 x2 x3 x4 x5 x6 (ix3 i t k)
    = x6 (ix2 (nst x0 x1 x2 x3 x4 x5 i t) k) :=
  rows_at gather_S512x128_S128x64x1_S128x64x128_2_0_n_n_0_2_1128.wf _ _ i t k _ (v40_at hin)

omit hin

/-- Two blocks side by side along the last of three axes: a cell of the first, -/
theorem beside_left (x : S128x64x128.Idx → EReal) (y : S128x64x3.Idx → EReal) (i : Fin 128) (t : Fin 64) (k : Fin 128) :
    concatenate S128x64x131 2 [⟨S128x64x128, x⟩, ⟨S128x64x3, y⟩] concatenates_S128x64x128_S128x64x3_S128x64x131_d2 (ix3 i t (Fin.castAdd 3 k : Fin 131))
      = x (ix3 i t k) := by
  refine concatenate_pair_apply_left (t := S128x64x131) 2 x y _ (ix3 i t (Fin.castAdd 3 k : Fin 131)) rfl (ix3 i t k) ?_
  rintro ⟨b, hb⟩
  rcases b with _ | _ | _ | b
  · rfl
  · rfl
  · rfl
  · exact absurd hb (by simp)

/-- and a cell of the second. -/
theorem beside_right (x : S128x64x128.Idx → EReal) (y : S128x64x3.Idx → EReal) (i : Fin 128) (t : Fin 64) (a : Fin 3) :
    concatenate S128x64x131 2 [⟨S128x64x128, x⟩, ⟨S128x64x3, y⟩] concatenates_S128x64x128_S128x64x3_S128x64x131_d2 (ix3 i t (Fin.natAdd 128 a : Fin 131))
      = y (ix3 i t a) := by
  refine concatenate_pair_apply_right (t := S128x64x131) 2 x y _ (ix3 i t (Fin.natAdd 128 a : Fin 131)) rfl rfl (ix3 i t a) ?_ (Nat.add_comm a.val 128)
  rintro ⟨b, hb⟩ hne
  rcases b with _ | _ | _ | b
  · rfl
  · rfl
  · exact absurd rfl hne
  · exact absurd hb (by simp)

end Cert.Side
-- ==== Proof.Side.lean ====
module

public import proofs.«01_k».proof.Proof.Gather

/- The reference's features of a centre: the perceptron of the gathered points and its greatest value over them. -/

@[expose] public section

set_option maxRecDepth 16384

noncomputable section

namespace Cert.Side

open Idealize.ShloMosaic Idealize.ShloMosaic.ValueIdx Idealize.SL.Sem Cert.ReferenceIdeal Cert.ReferenceIdeal.Gen Cert.ReferenceIdeal.Read
open Cert.Plain Cert.Rank Cert.Group

variable (x0 x1 x2 : FVec Ideal S512x1 .f32) (x3 x4 x5 : FVec Ideal S128x1 .f32) (x6 : FVec Ideal S512x128 .f32) (x7 : FVec Ideal S131x128 .f32)
  (x8 : FVec Ideal S128 .f32) (x9 : FVec Ideal S128x128 .f32) (x10 : FVec Ideal S128 .f32) (x11 : FVec Ideal S128x256 .f32) (x12 : FVec Ideal S256 .f32)
  (i : Fin 128) (t : Fin 64)

/-- The first layer at a point of the ball: its weights' first 128 rows meet the point's features, the last three its offsets. -/
theorem v47_at (hin : dst x0 x1 x2 x3 x4 x5 i (nst x0 x1 x2 x3 x4 x5 i t) < ⊤) (l : Fin 128) :
    val_main_v47 (F := Ideal) x0 x1 x2 x3 x4 x5 x6 x7 x8 (ix3 i t l)
      = mix (fun k j => x7 (ix2 (Fin.castAdd 3 k : Fin 131) j)) (fun a j => x7 (ix2 (Fin.natAdd 128 a : Fin 131) j)) (fun j => x8 (ix1 j))
          (fun k => x6 (ix2 (nst x0 x1 x2 x3 x4 x5 i t) k)) (fun a => pts x0 x1 x2 a (nst x0 x1 x2 x3 x4 x5 i t) - ctr x3 x4 x5 i a) l := by
  rw [val_main_v47_apply, val_main_v46_apply, val_main_v43_apply, val_main_v45_apply, val_main_v44_apply, val_main_call2_v0_apply, val_main_call2_cst_apply]
  refine congrArg₂ max (congrArg₂ (· + ·) ?_ (congrArg x8 (at₁ _ l rfl))) Ideal.ofBits_zero_f32
  refine (Fin.sum_univ_add (a := 128) (b := 3) _).trans (congrArg₂ (· + ·) (Finset.sum_congr rfl fun k _ => ?_) (Finset.sum_congr rfl fun a _ => ?_))
  · refine congrArg₂ (· * ·) ((congrArg _ (at₃ (lidx_main_v43 _ _) i t (Fin.castAdd 3 k : Fin 131) rfl rfl rfl)).trans ?_)
      (congrArg x7 (at₂ (ridx_main_v43 _ _) (Fin.castAdd 3 k : Fin 131) l rfl rfl))
    exact (beside_left _ _ i t k).trans (v41_at hin x6 k)
  · refine congrArg₂ (· * ·) ((congrArg _ (at₃ (lidx_main_v43 _ _) i t (Fin.natAdd 128 a : Fin 131) rfl rfl rfl)).trans ?_)
      (congrArg x7 (at₂ (ridx_main_v43 _ _) (Fin.natAdd 128 a : Fin 131) l rfl rfl))
    exact (beside_right _ _ i t a).trans (v34_at hin a)

/-- The second layer. -/
theorem v52_at (l : Fin 128) : val_main_v52 (F := Ideal) x0 x1 x2 x3 x4 x5 x6 x7 x8 x9 x10 (ix3 i t l)
    = dense (fun k j => x9 (ix2 k j)) (fun j => x10 (ix1 j)) (fun k => val_main_v47 (F := Ideal) x0 x1 x2 x3 x4 x5 x6 x7 x8 (ix3 i t k)) l := by
  rw [val_main_v52_apply, val_main_v51_apply, val_main_v48_apply, val_main_v50_apply, val_main_v49_apply, val_main_call3_v0_apply, val_main_call3_cst_apply]
  refine congrArg₂ max (congrArg₂ (· + ·) (Finset.sum_congr rfl fun k _ => ?_) (congrArg x10 (at₁ _ l rfl))) Ideal.ofBits_zero_f32
  exact congrArg₂ (· * ·) (congrArg _ (at₃ (lidx_main_v48 _ _) i t k rfl rfl rfl)) (congrArg x9 (at₂ (ridx_main_v48 _ _) k l rfl rfl))

/-- The third layer. -/
theorem v57_at (c : Fin 256) : val_main_v57 (F := Ideal) x0 x1 x2 x3 x4 x5 x6 x7 x8 x9 x10 x11 x12 (ix3 i t c)
    = dense (fun k j => x11 (ix2 k j)) (fun j => x12 (ix1 j)) (fun k => val_main_v52 (F := Ideal) x0 x1 x2 x3 x4 x5 x6 x7 x8 x9 x10 (ix3 i t k)) c := by
  rw [val_main_v57_apply, val_main_v56_apply, val_main_v53_apply, val_main_v55_apply, val_main_v54_apply, val_main_call4_v0_apply, val_main_call4_cst_apply]
  refine congrArg₂ max (congrArg₂ (· + ·) (Finset.sum_congr rfl fun k _ => ?_) (congrArg x12 (at₁ _ c rfl))) Ideal.ofBits_zero_f32
  exact congrArg₂ (· * ·) (congrArg _ (at₃ (lidx_main_v53 _ _) i t k rfl rfl rfl)) (congrArg x11 (at₂ (ridx_main_v53 _ _) k c rfl rfl))

/-- A point's feature where it lies in the ball, and minus infinity where it does not. -/
theorem v59_at (c : Fin 256) : val_main_v59 (F := Ideal) x0 x1 x2 x3 x4 x5 x6 x7 x8 x9 x10 x11 x12 (ix3 i t c)
    = if dst x0 x1 x2 x3 x4 x5 i (nst x0 x1 x2 x3 x4 x5 i t) < ⊤ then
        feature (pts x0 x1 x2) (fun s k => x6 (ix2 s k)) (fun k j => x7 (ix2 (Fin.castAdd 3 k : Fin 131) j)) (fun a j => x7 (ix2 (Fin.natAdd 128 a : Fin 131) j))
          (fun j => x8 (ix1 j)) (fun k j => x9 (ix2 k j)) (fun j => x10 (ix1 j)) (fun k j => x11 (ix2 k j)) (fun j => x12 (ix1 j))
          (ctr x3 x4 x5 i) (nst x0 x1 x2 x3 x4 x5 i t) c
      else ⊥ := by
  rw [val_main_v59_apply, val_main_call5_v1_apply, val_main_v58_apply, at₂ (idx_main_v58 _) i t rfl rfl, v23_at, val_main_call5_v2_apply,
    val_main_call5_v0_apply, val_main_cst_10_apply, select_ofBool]
  by_cases hin : dst x0 x1 x2 x3 x4 x5 i (nst x0 x1 x2 x3 x4 x5 i t) < ⊤
  · rw [if_pos (decide_eq_true hin), if_pos hin, v57_at]
    refine congrArg (fun z => dense (fun k j => x11 (ix2 k j)) (fun j => x12 (ix1 j)) z c) (funext fun k => ?_)
    rw [v52_at]
    refine congrArg (fun z => dense (fun k j => x9 (ix2 k j)) (fun j => x10 (ix1 j)) z k) (funext fun l => ?_)
    exact v47_at x0 x1 x2 x3 x4 x5 x6 x7 x8 i t hin l
  · rw [if_neg (fun h => hin (of_decide_eq_true h)), if_neg hin]
    exact bits_bot

/-- Equal values from minus infinity have one greatest value. -/
theorem greatest {n : ℕ} {b : EReal} {f g : Fin n → EReal} (hb : b = ⊥) (h : ∀ k, f k = g k) :
    (Finset.univ : Finset (Fin n)).fold max b f = (Finset.univ : Finset (Fin n)).fold max ⊥ g := by
  rw [hb, funext h]

/-- Reducing the middle axis of three. -/
theorem middle : S128x64x256.Reduces [1] S128x256 := by decide

/-- The features the reference pools over a centre's points are the network's. -/
theorem v60_at (c : Fin 256) : val_main_v60 (F := Ideal) x0 x1 x2 x3 x4 x5 x6 x7 x8 x9 x10 x11 x12 (ix2 i c)
    = Net.grouped x0 x1 x2 x3 x4 x5 x6 x7 x8 x9 x10 x11 x12 i c := by
  unfold val_main_v60
  refine (Host.reduce_eq_fold_single max (val_main_v59 (F := Ideal) x0 x1 x2 x3 x4 x5 x6 x7 x8 x9 x10 x11 x12) _
    reducesTo_S128x64x256_S128x256_d1 middle h_S_ (ix2 i c)).trans ?_
  unfold Net.grouped group pooled
  refine greatest bits_bot fun t => ?_
  exact (congrArg _ (at₃ (middle.lift (ix2 i c) t) i t c rfl rfl rfl)).trans (v59_at x0 x1 x2 x3 x4 x5 x6 x7 x8 x9 x10 x11 x12 i t c)

end Cert.Side
-- ==== Proof.Scores.lean ====
module

public import proofs.«01_k».proof.Proof.Side

/- The reference's classifier of the pooled features, layer by layer. -/

@[expose] public section

set_option maxRecDepth 16384

noncomputable section

namespace Cert.Side

open Idealize.ShloMosaic Idealize.ShloMosaic.ValueIdx Idealize.SL.Sem Cert.ReferenceIdeal Cert.ReferenceIdeal.Gen Cert.ReferenceIdeal.Read
open Cert.Plain Cert.Rank Cert.Group

variable (x0 x1 x2 : FVec Ideal S512x1 .f32) (x3 x4 x5 : FVec Ideal S128x1 .f32) (x6 : FVec Ideal S512x128 .f32) (x7 : FVec Ideal S131x128 .f32)
  (x8 : FVec Ideal S128 .f32) (x9 : FVec Ideal S128x128 .f32) (x10 : FVec Ideal S128 .f32) (x11 : FVec Ideal S128x256 .f32) (x12 : FVec Ideal S256 .f32)
  (x13 : FVec Ideal S259x256 .f32) (x14 : FVec Ideal S256 .f32) (x15 : FVec Ideal S256x512 .f32) (x16 : FVec Ideal S512 .f32)
  (x17 : FVec Ideal S512x1024 .f32) (x18 : FVec Ideal S1024 .f32) (x19 : FVec Ideal S1024x512 .f32) (x20 : FVec Ideal S512 .f32)
  (x21 : FVec Ideal S512x256 .f32) (x22 : FVec Ideal S256 .f32) (x23 : FVec Ideal S256x40 .f32) (x24 : FVec Ideal S40 .f32)
  (n : Fin 128)

/-- A centre's place about the mean of the centres. -/
theorem v66_at (a : Fin 3) : val_main_v66 (F := Ideal) x3 x4 x5 (ix2 n a)
    = ctr x3 x4 x5 n a - Ideal.div (∑ i, ctr x3 x4 x5 i a) (Ideal.ofBits .f32 0x43000000#32) := by
  rw [val_main_v66_apply, v1_apply, val_main_v65_apply, val_main_v64_apply, val_main_v63_apply, val_main_cst_13_apply, val_main_v62_apply, val_main_v61_apply,
    val_main_cst_12_apply]
  have hz : ∀ z : EReal, (FloatOps.ofBits (F := Ideal) .f32 0x00000000#32 : EReal) + z = z := fun z =>
    (congrArg (· + z) Ideal.ofBits_zero_f32).trans (zero_add z)
  refine congrArg (fun z => ctr x3 x4 x5 n a - Ideal.div z (Ideal.ofBits .f32 0x43000000#32)) ((hz _).trans (Finset.sum_congr rfl fun i _ => ?_))
  exact (congrArg _ (at₂ (idx_main_v61 _ _) i a rfl rfl)).trans (v1_apply x3 x4 x5 i a)

/-- Features and coordinates side by side: a feature, -/
theorem joined_left (x : S128x256.Idx → EReal) (y : S128x3.Idx → EReal) (k : Fin 256) :
    concatenate S128x259 1 [⟨S128x256, x⟩, ⟨S128x3, y⟩] concatenates_S128x256_S128x3_S128x259_d1 (ix2 n (Fin.castAdd 3 k : Fin 259)) = x (ix2 n k) := by
  refine concatenate_pair_apply_left (t := S128x259) 1 x y _ (ix2 n (Fin.castAdd 3 k : Fin 259)) rfl (ix2 n k) ?_
  rintro ⟨b, hb⟩
  rcases b with _ | _ | b
  · rfl
  · rfl
  · exact absurd hb (by simp)

/-- and a coordinate. -/
theorem joined_right (x : S128x256.Idx → EReal) (y : S128x3.Idx → EReal) (a : Fin 3) :
    concatenate S128x259 1 [⟨S128x256, x⟩, ⟨S128x3, y⟩] concatenates_S128x256_S128x3_S128x259_d1 (ix2 n (Fin.natAdd 256 a : Fin 259)) = y (ix2 n a) := by
  refine concatenate_pair_apply_right (t := S128x259) 1 x y _ (ix2 n (Fin.natAdd 256 a : Fin 259)) rfl rfl (ix2 n a) ?_ (Nat.add_comm a.val 256)
  rintro ⟨b, hb⟩ hne
  rcases b with _ | _ | b
  · rfl
  · exact absurd rfl hne
  · exact absurd hb (by simp)

/-- The first layer, of a centre's pooled features and its place about the mean. -/
theorem v72_at (l : Fin 256) : val_main_v72 (F := Ideal) x0 x1 x2 x3 x4 x5 x6 x7 x8 x9 x10 x11 x12 x13 x14 (ix2 n l)
    = mix (fun k j => x13 (ix2 (Fin.castAdd 3 k : Fin 259) j)) (fun a j => x13 (ix2 (Fin.natAdd 256 a : Fin 259) j)) (fun j => x14 (ix1 j))
        (Net.grouped x0 x1 x2 x3 x4 x5 x6 x7 x8 x9 x10 x11 x12 n)
        (fun a => ctr x3 x4 x5 n a - Ideal.div (∑ i, ctr x3 x4 x5 i a) (Ideal.ofBits .f32 0x43000000#32)) l := by
  rw [val_main_v72_apply, val_main_v71_apply, val_main_v68_apply, val_main_v70_apply, val_main_v69_apply, val_main_call6_v0_apply, val_main_call6_cst_apply]
  refine congrArg₂ max (congrArg₂ (· + ·) ?_ (congrArg x14 (at₁ _ l rfl))) Ideal.ofBits_zero_f32
  refine (Fin.sum_univ_add (a := 256) (b := 3) _).trans (congrArg₂ (· + ·) (Finset.sum_congr rfl fun k _ => ?_) (Finset.sum_congr rfl fun a _ => ?_))
  · refine congrArg₂ (· * ·) ((congrArg _ (at₂ (lidx_main_v68 _ _) n (Fin.castAdd 3 k : Fin 259) rfl rfl)).trans ?_)
      (congrArg x13 (at₂ (ridx_main_v68 _ _) (Fin.castAdd 3 k : Fin 259) l rfl rfl))
    exact (joined_left n _ _ k).trans (v60_at x0 x1 x2 x3 x4 x5 x6 x7 x8 x9 x10 x11 x12 n k)
  · refine congrArg₂ (· * ·) ((congrArg _ (at₂ (lidx_main_v68 _ _) n (Fin.natAdd 256 a : Fin 259) rfl rfl)).trans ?_)
      (congrArg x13 (at₂ (ridx_main_v68 _ _) (Fin.natAdd 256 a : Fin 259) l rfl rfl))
    exact (joined_right n _ _ a).trans (v66_at x3 x4 x5 n a)

/-- The second layer. -/
theorem v77_at (l : Fin 512) : val_main_v77 (F := Ideal) x0 x1 x2 x3 x4 x5 x6 x7 x8 x9 x10 x11 x12 x13 x14 x15 x16 (ix2 n l)
    = dense (fun k j => x15 (ix2 k j)) (fun j => x16 (ix1 j))
        (fun k => val_main_v72 (F := Ideal) x0 x1 x2 x3 x4 x5 x6 x7 x8 x9 x10 x11 x12 x13 x14 (ix2 n k)) l := by
  rw [val_main_v77_apply, val_main_v76_apply, val_main_v73_apply, val_main_v75_apply, val_main_v74_apply, val_main_call7_v0_apply, val_main_call7_cst_apply]
  refine congrArg₂ max (congrArg₂ (· + ·) (Finset.sum_congr rfl fun k _ => ?_) (congrArg x16 (at₁ _ l rfl))) Ideal.ofBits_zero_f32
  exact congrArg₂ (· * ·) (congrArg _ (at₂ (lidx_main_v73 _ _) n k rfl rfl)) (congrArg x15 (at₂ (ridx_main_v73 _ _) k l rfl rfl))

/-- The third layer. -/
theorem v82_at (l : Fin 1024) : val_main_v82 (F := Ideal) x0 x1 x2 x3 x4 x5 x6 x7 x8 x9 x10 x11 x12 x13 x14 x15 x16 x17 x18 (ix2 n l)
    = dense (fun k j => x17 (ix2 k j)) (fun j => x18 (ix1 j))
        (fun k => val_main_v77 (F := Ideal) x0 x1 x2 x3 x4 x5 x6 x7 x8 x9 x10 x11 x12 x13 x14 x15 x16 (ix2 n k)) l := by
  rw [val_main_v82_apply, val_main_v81_apply, val_main_v78_apply, val_main_v80_apply, val_main_v79_apply, val_main_call8_v0_apply, val_main_call8_cst_apply]
  refine congrArg₂ max (congrArg₂ (· + ·) (Finset.sum_congr rfl fun k _ => ?_) (congrArg x18 (at₁ _ l rfl))) Ideal.ofBits_zero_f32
  exact congrArg₂ (· * ·) (congrArg _ (at₂ (lidx_main_v78 _ _) n k rfl rfl)) (congrArg x17 (at₂ (ridx_main_v78 _ _) k l rfl rfl))

/-- Reducing the first axis of two. -/
theorem first : S128x1024.Reduces [0] S1024 := by decide

/-- The greatest value of each column of an array. -/
theorem columns_greatest (y : FVec Ideal S128x1024 .f32) (l : Fin 1024) :
    Host.reduce (FloatOps.maximumf (F := Ideal) (φ := .f32)) y (val_main_cst_14 (F := Ideal)) reducesTo_S128x1024_S1024_d0 h_S_ (ix1 l)
      = (Finset.univ : Finset (Fin 128)).fold max ⊥ fun n => y (ix2 n l) := by
  refine (Host.reduce_eq_fold_single max y _ reducesTo_S128x1024_S1024_d0 first h_S_ (ix1 l)).trans ?_
  exact greatest bits_bot fun n => congrArg y (at₂ (first.lift (ix1 l) n) n l rfl rfl)

/-- The greatest value over the centres. -/
theorem v83_at (l : Fin 1024) : val_main_v83 (F := Ideal) x0 x1 x2 x3 x4 x5 x6 x7 x8 x9 x10 x11 x12 x13 x14 x15 x16 x17 x18 (ix1 l)
    = (Finset.univ : Finset (Fin 128)).fold max ⊥ fun n =>
        val_main_v82 (F := Ideal) x0 x1 x2 x3 x4 x5 x6 x7 x8 x9 x10 x11 x12 x13 x14 x15 x16 x17 x18 (ix2 n l) :=
  columns_greatest (val_main_v82 (F := Ideal) x0 x1 x2 x3 x4 x5 x6 x7 x8 x9 x10 x11 x12 x13 x14 x15 x16 x17 x18) l

/-- The fourth layer. -/
theorem v88_at (l : Fin 512) : val_main_v88 (F := Ideal) x0 x1 x2 x3 x4 x5 x6 x7 x8 x9 x10 x11 x12 x13 x14 x15 x16 x17 x18 x19 x20 (ix2 0 l)
    = dense (fun k j => x19 (ix2 k j)) (fun j => x20 (ix1 j))
        (fun k => val_main_v83 (F := Ideal) x0 x1 x2 x3 x4 x5 x6 x7 x8 x9 x10 x11 x12 x13 x14 x15 x16 x17 x18 (ix1 k)) l := by
  rw [val_main_v88_apply, val_main_v87_apply, val_main_v85_apply, val_main_v86_apply, val_main_call9_v0_apply, val_main_call9_cst_apply]
  refine congrArg₂ max (congrArg₂ (· + ·) (Finset.sum_congr rfl fun k _ => ?_) (congrArg x20 (at₁ _ l rfl))) Ideal.ofBits_zero_f32
  refine congrArg₂ (· * ·) ?_ (congrArg x19 (at₂ (ridx_main_v85 _ _) k l rfl rfl))
  rw [val_main_v84_apply]
  exact congrArg (val_main_v83 (F := Ideal) x0 x1 x2 x3 x4 x5 x6 x7 x8 x9 x10 x11 x12 x13 x14 x15 x16 x17 x18) (at₁ (idx_main_v84 _) k rfl)

/-- The fifth layer. -/
theorem v92_at (l : Fin 256) : val_main_v92 (F := Ideal) x0 x1 x2 x3 x4 x5 x6 x7 x8 x9 x10 x11 x12 x13 x14 x15 x16 x17 x18 x19 x20 x21 x22 (ix2 0 l)
    = dense (fun k j => x21 (ix2 k j)) (fun j => x22 (ix1 j))
        (fun k => val_main_v88 (F := Ideal) x0 x1 x2 x3 x4 x5 x6 x7 x8 x9 x10 x11 x12 x13 x14 x15 x16 x17 x18 x19 x20 (ix2 0 k)) l := by
  rw [val_main_v92_apply, val_main_v91_apply, val_main_v89_apply, val_main_v90_apply, val_main_call10_v0_apply, val_main_call10_cst_apply]
  refine congrArg₂ max (congrArg₂ (· + ·) (Finset.sum_congr rfl fun k _ => ?_) (congrArg x22 (at₁ _ l rfl))) Ideal.ofBits_zero_f32
  exact congrArg₂ (· * ·) (congrArg _ (at₂ (lidx_main_v89 _ _) 0 k rfl rfl)) (congrArg x21 (at₂ (ridx_main_v89 _ _) k l rfl rfl))

/-- The scores: the last layer, which takes no positive part. -/
theorem v95_at (j : Fin 40) :
    val_main_v95 (F := Ideal) x0 x1 x2 x3 x4 x5 x6 x7 x8 x9 x10 x11 x12 x13 x14 x15 x16 x17 x18 x19 x20 x21 x22 x23 x24 (ix2 0 j)
      = Net.scored (Net.grouped x0 x1 x2 x3 x4 x5 x6 x7 x8 x9 x10 x11 x12) x3 x4 x5 x13 x14 x15 x16 x17 x18 x19 x20 x21 x22 x23 x24 j := by
  rw [val_main_v95_apply, val_main_v93_apply, val_main_v94_apply]
  refine congrArg₂ (· + ·) (Finset.sum_congr rfl fun k _ => ?_) (congrArg x24 (at₁ _ j rfl))
  refine congrArg₂ (· * ·) ((congrArg _ (at₂ (lidx_main_v93 _ _) 0 k rfl rfl)).trans ?_) (congrArg x23 (at₂ (ridx_main_v93 _ _) k j rfl rfl))
  rw [v92_at]
  refine congrArg (fun z => dense (fun k j => x21 (ix2 k j)) (fun j => x22 (ix1 j)) z k) (funext fun l => ?_)
  rw [v88_at]
  refine congrArg (fun z => dense (fun k j => x19 (ix2 k j)) (fun j => x20 (ix1 j)) z l) (funext fun m => ?_)
  rw [v83_at]
  refine greatest rfl fun n => ?_
  rw [v82_at]
  refine congrArg (fun z => dense (fun k j => x17 (ix2 k j)) (fun j => x18 (ix1 j)) z m) (funext fun p => ?_)
  rw [v77_at]
  refine congrArg (fun z => dense (fun k j => x15 (ix2 k j)) (fun j => x16 (ix1 j)) z p) (funext fun q => ?_)
  exact v72_at x0 x1 x2 x3 x4 x5 x6 x7 x8 x9 x10 x11 x12 x13 x14 n q

end Cert.Side
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Scores
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The reference ends with its arguments as launched, and the machine has no semaphore. -/
theorem reference_quiescent : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- The reference's result is the array of the network's scores of its arguments. -/
theorem reference_scores (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v95 m c
      = (fun i : Cert.ReferenceIdeal.S1x40.Idx => Net.scored (Net.grouped (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)))
          (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (i 1)) := by
  rw [Cert.ReferenceIdeal.Read.val_main_v95_eq]
  funext i
  refine (congrArg _ (Side.at₂ i 0 (i 1) (Nat.lt_one_iff.mp (i 0).isLt) rfl)).trans ?_
  exact Side.v95_at _ _ _ _ _ _ _ _ _ _ _ _ _ _ _ _ _ _ _ _ _ _ _ _ _ (i 1)

/-- Kernel and reference compute one array from equal arguments. -/
theorem equal_results : Cert.algebraic_KernelIdeal_ReferenceIdeal (hKernelIdeal := Cert.KernelIdeal.Gen.facts)
    (hReferenceIdeal := Cert.ReferenceIdeal.Gen.facts) := by
  intro m ρ m' ρ' _ same
  refine ⟨fun c i => Whole.scores m c (i 1), Whole.run m ρ, ?_⟩
  refine (θ_run _ _ _).mono (fun r h c => ⟨(h c).1.trans ?_, (h c).2⟩) (Cert.ReferenceIdeal.Value.run (F := Ideal) m' ρ')
  refine (reference_scores m' c).trans ?_
  obtain ⟨h0, h1, h2, h3, h4, h5, h6, h7, h8, h9, h10, h11, h12, h13, h14, h15, h16, h17, h18, h19, h20, h21, h22, h23, h24⟩ := same c
  rw [h0, h1, h2, h3, h4, h5, h6, h7, h8, h9, h10, h11, h12, h13, h14, h15, h16, h17, h18, h19, h20, h21, h22, h23, h24]
  rfl

/-- The certificate's claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_quiescent, trivial, equal_results⟩

end Cert.Proof

end
